-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S8x2048 : Shape := ⟨2, ![8, 2048]⟩
abbrev S_ : Shape := ⟨0, ![]⟩
abbrev S16 : Shape := ⟨1, ![16]⟩
abbrev S1024x8x4096 : Shape := ⟨3, ![1024, 8, 4096]⟩
abbrev S1x8x2048 : Shape := ⟨3, ![1, 8, 2048]⟩
abbrev S1x128 : Shape := ⟨2, ![1, 128]⟩
abbrev S128 : Shape := ⟨1, ![128]⟩

abbrev nBuf : Table → Nat
  | .hbm => 3
  | .local .scVector .vmem => 6
  | _ => 0

abbrev bufTy : (tb : Table) → Fin (nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .local .scVector .vmem, ⟨0, _⟩ => ⟨S8x2048, .f32⟩
  | .local .scVector .vmem, ⟨1, _⟩ => ⟨S8x2048, .f32⟩
  | .local .scVector .vmem, ⟨2, _⟩ => ⟨S8x2048, .f32⟩
  | .local .scVector .vmem, ⟨3, _⟩ => ⟨S8x2048, .f32⟩
  | .local .scVector .vmem, ⟨4, _⟩ => ⟨S8x2048, .f32⟩
  | .local .scVector .vmem, ⟨5, _⟩ => ⟨S8x2048, .f32⟩
  | _, _ => ⟨S8192x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v6 : BitVec 32 := Scalar.addi v2 c0_i32
  let c0_i32_0 : BitVec 32 := 0#32
  let c0_i32_1 : BitVec 32 := 0#32
  ![v6.toNat, 0, 0]
def k0_off2 (i : grid0.Coords) (c0_i32_8 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v19 : BitVec 32 := Scalar.addi v2 c0_i32_8
  let c0_i32_9 : BitVec 32 := 0#32
  let c2048_i32 : BitVec 32 := 2048#32
  ![v19.toNat, 0, 2048]
@[reducible] def k0_t1_loop : Scf.Loop 32 :=
  let c0_i32_16 : BitVec 32 := 0#32
  let c21_i32 : BitVec 32 := 21#32
  let v32 : BitVec 32 := Scalar.addi c0_i32_16 c21_i32
  let c1_i32 : BitVec 32 := 1#32
  ⟨c0_i32_16, v32, c1_i32⟩
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_51 : BitVec 32 := 3#32
  let c0_i32_16 : BitVec 32 := 0#32
  let c1_i32 : BitVec 32 := 1#32
  let arg20 : BitVec 32 := Scf.iv c0_i32_16 c1_i32 k0_t1
  let v91 : BitVec 32 := Scalar.muli c3_i32_51 arg20
  let c1_i32_52 : BitVec 32 := 1#32
  let v92 : BitVec 32 := Scalar.shrsi v91 c1_i32_52
  let v93 : BitVec 32 := Scalar.addi v2 v92
  let c0_i32_55 : BitVec 32 := 0#32
  let c1_i32_53 : BitVec 32 := 1#32
  let v94 : BitVec 32 := Scalar.andi v91 c1_i32_53
  let c2048_i32_54 : BitVec 32 := 2048#32
  let v95 : BitVec 32 := Scalar.muli v94 c2048_i32_54
  ![v93.toNat, 0, v95.toNat]
@[reducible] def k0_t2_loop : Scf.Loop 32 :=
  let c0_i32_67 : BitVec 32 := 0#32
  let c128_i32_68 : BitVec 32 := 128#32
  let v124 : BitVec 32 := Scalar.addi c0_i32_67 c128_i32_68
  let c1_i32_69 : BitVec 32 := 1#32
  ⟨c0_i32_67, v124, c1_i32_69⟩
def k0_off4 (k0_t2 : Fin k0_t2_loop.trips) : Fin 2 → Nat :=
  let c0_i32_137 : BitVec 32 := 0#32
  let c0_i32_67 : BitVec 32 := 0#32
  let c1_i32_69 : BitVec 32 := 1#32
  let arg21 : BitVec 32 := Scf.iv c0_i32_67 c1_i32_69 k0_t2
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off5 (k0_t2 : Fin k0_t2_loop.trips) : Fin 2 → Nat :=
  let c0_i32_137 : BitVec 32 := 0#32
  let c0_i32_67 : BitVec 32 := 0#32
  let c1_i32_69 : BitVec 32 := 1#32
  let arg21 : BitVec 32 := Scf.iv c0_i32_67 c1_i32_69 k0_t2
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off6 (k0_t2 : Fin k0_t2_loop.trips) : Fin 2 → Nat :=
  let c0_i32_137 : BitVec 32 := 0#32
  let c0_i32_67 : BitVec 32 := 0#32
  let c1_i32_69 : BitVec 32 := 1#32
  let arg21 : BitVec 32 := Scf.iv c0_i32_67 c1_i32_69 k0_t2
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off7 (k0_t2 : Fin k0_t2_loop.trips) : Fin 2 → Nat :=
  let c0_i32_137 : BitVec 32 := 0#32
  let c0_i32_67 : BitVec 32 := 0#32
  let c1_i32_69 : BitVec 32 := 1#32
  let arg21 : BitVec 32 := Scf.iv c0_i32_67 c1_i32_69 k0_t2
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off8 (k0_t2 : Fin k0_t2_loop.trips) : Fin 2 → Nat :=
  let c0_i32_137 : BitVec 32 := 0#32
  let c0_i32_67 : BitVec 32 := 0#32
  let c1_i32_69 : BitVec 32 := 1#32
  let arg21 : BitVec 32 := Scf.iv c0_i32_67 c1_i32_69 k0_t2
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off9 (k0_t2 : Fin k0_t2_loop.trips) : Fin 2 → Nat :=
  let c0_i32_137 : BitVec 32 := 0#32
  let c0_i32_67 : BitVec 32 := 0#32
  let c1_i32_69 : BitVec 32 := 1#32
  let arg21 : BitVec 32 := Scf.iv c0_i32_67 c1_i32_69 k0_t2
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off10 (k0_t2 : Fin k0_t2_loop.trips) : Fin 2 → Nat :=
  let c0_i32_137 : BitVec 32 := 0#32
  let c0_i32_67 : BitVec 32 := 0#32
  let c1_i32_69 : BitVec 32 := 1#32
  let arg21 : BitVec 32 := Scf.iv c0_i32_67 c1_i32_69 k0_t2
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off11 (k0_t2 : Fin k0_t2_loop.trips) : Fin 2 → Nat :=
  let c0_i32_137 : BitVec 32 := 0#32
  let c0_i32_67 : BitVec 32 := 0#32
  let c1_i32_69 : BitVec 32 := 1#32
  let arg21 : BitVec 32 := Scf.iv c0_i32_67 c1_i32_69 k0_t2
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off12 (k0_t2 : Fin k0_t2_loop.trips) : Fin 2 → Nat :=
  let c0_i32_137 : BitVec 32 := 0#32
  let c0_i32_67 : BitVec 32 := 0#32
  let c1_i32_69 : BitVec 32 := 1#32
  let arg21 : BitVec 32 := Scf.iv c0_i32_67 c1_i32_69 k0_t2
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]

def k0_chk1 (v109 : IVec S16 32) : Prop :=
  (∀ a x, ((![v109] : Fin 1 → IVec S16 32) a x).toNat < S128.size a) ∧
  (∀ a x, ((![v109] : Fin 1 → IVec S16 32) a x).toNat < S128.size a)
theorem k0_idx1_inb : ∀ (v109 : IVec S16 32) (k0_hw1 : k0_chk1 v109), ∀ a x, ((![v109] : Fin 1 → IVec S16 32) a x).toNat < S128.size a := fun v109 k0_hw1 => k0_hw1.1
theorem k0_idx9_inb : ∀ (v109 : IVec S16 32) (k0_hw1 : k0_chk1 v109), ∀ a x, ((![v109] : Fin 1 → IVec S16 32) a x).toNat < S128.size a := fun v109 k0_hw1 => k0_hw1.2

def k0_chk2 (v111 : IVec S16 32) : Prop :=
  (∀ a x, ((![v111] : Fin 1 → IVec S16 32) a x).toNat < S128.size a) ∧
  (∀ a x, ((![v111] : Fin 1 → IVec S16 32) a x).toNat < S128.size a)
theorem k0_idx2_inb : ∀ (v111 : IVec S16 32) (k0_hw2 : k0_chk2 v111), ∀ a x, ((![v111] : Fin 1 → IVec S16 32) a x).toNat < S128.size a := fun v111 k0_hw2 => k0_hw2.1
theorem k0_idx10_inb : ∀ (v111 : IVec S16 32) (k0_hw2 : k0_chk2 v111), ∀ a x, ((![v111] : Fin 1 → IVec S16 32) a x).toNat < S128.size a := fun v111 k0_hw2 => k0_hw2.2

def k0_chk3 (v113 : IVec S16 32) : Prop :=
  (∀ a x, ((![v113] : Fin 1 → IVec S16 32) a x).toNat < S128.size a) ∧
  (∀ a x, ((![v113] : Fin 1 → IVec S16 32) a x).toNat < S128.size a)
theorem k0_idx3_inb : ∀ (v113 : IVec S16 32) (k0_hw3 : k0_chk3 v113), ∀ a x, ((![v113] : Fin 1 → IVec S16 32) a x).toNat < S128.size a := fun v113 k0_hw3 => k0_hw3.1
theorem k0_idx11_inb : ∀ (v113 : IVec S16 32) (k0_hw3 : k0_chk3 v113), ∀ a x, ((![v113] : Fin 1 → IVec S16 32) a x).toNat < S128.size a := fun v113 k0_hw3 => k0_hw3.2

def k0_chk4 (v115 : IVec S16 32) : Prop :=
  (∀ a x, ((![v115] : Fin 1 → IVec S16 32) a x).toNat < S128.size a) ∧
  (∀ a x, ((![v115] : Fin 1 → IVec S16 32) a x).toNat < S128.size a)
theorem k0_idx4_inb : ∀ (v115 : IVec S16 32) (k0_hw4 : k0_chk4 v115), ∀ a x, ((![v115] : Fin 1 → IVec S16 32) a x).toNat < S128.size a := fun v115 k0_hw4 => k0_hw4.1
theorem k0_idx12_inb : ∀ (v115 : IVec S16 32) (k0_hw4 : k0_chk4 v115), ∀ a x, ((![v115] : Fin 1 → IVec S16 32) a x).toNat < S128.size a := fun v115 k0_hw4 => k0_hw4.2

def k0_chk5 (v117 : IVec S16 32) : Prop :=
  (∀ a x, ((![v117] : Fin 1 → IVec S16 32) a x).toNat < S128.size a) ∧
  (∀ a x, ((![v117] : Fin 1 → IVec S16 32) a x).toNat < S128.size a)
theorem k0_idx5_inb : ∀ (v117 : IVec S16 32) (k0_hw5 : k0_chk5 v117), ∀ a x, ((![v117] : Fin 1 → IVec S16 32) a x).toNat < S128.size a := fun v117 k0_hw5 => k0_hw5.1
theorem k0_idx13_inb : ∀ (v117 : IVec S16 32) (k0_hw5 : k0_chk5 v117), ∀ a x, ((![v117] : Fin 1 → IVec S16 32) a x).toNat < S128.size a := fun v117 k0_hw5 => k0_hw5.2

def k0_chk6 (v119 : IVec S16 32) : Prop :=
  (∀ a x, ((![v119] : Fin 1 → IVec S16 32) a x).toNat < S128.size a) ∧
  (∀ a x, ((![v119] : Fin 1 → IVec S16 32) a x).toNat < S128.size a)
theorem k0_idx6_inb : ∀ (v119 : IVec S16 32) (k0_hw6 : k0_chk6 v119), ∀ a x, ((![v119] : Fin 1 → IVec S16 32) a x).toNat < S128.size a := fun v119 k0_hw6 => k0_hw6.1
theorem k0_idx14_inb : ∀ (v119 : IVec S16 32) (k0_hw6 : k0_chk6 v119), ∀ a x, ((![v119] : Fin 1 → IVec S16 32) a x).toNat < S128.size a := fun v119 k0_hw6 => k0_hw6.2

def k0_chk7 (v121 : IVec S16 32) : Prop :=
  (∀ a x, ((![v121] : Fin 1 → IVec S16 32) a x).toNat < S128.size a) ∧
  (∀ a x, ((![v121] : Fin 1 → IVec S16 32) a x).toNat < S128.size a)
theorem k0_idx7_inb : ∀ (v121 : IVec S16 32) (k0_hw7 : k0_chk7 v121), ∀ a x, ((![v121] : Fin 1 → IVec S16 32) a x).toNat < S128.size a := fun v121 k0_hw7 => k0_hw7.1
theorem k0_idx15_inb : ∀ (v121 : IVec S16 32) (k0_hw7 : k0_chk7 v121), ∀ a x, ((![v121] : Fin 1 → IVec S16 32) a x).toNat < S128.size a := fun v121 k0_hw7 => k0_hw7.2

def k0_chk8 (v123 : IVec S16 32) : Prop :=
  (∀ a x, ((![v123] : Fin 1 → IVec S16 32) a x).toNat < S128.size a) ∧
  (∀ a x, ((![v123] : Fin 1 → IVec S16 32) a x).toNat < S128.size a)
theorem k0_idx8_inb : ∀ (v123 : IVec S16 32) (k0_hw8 : k0_chk8 v123), ∀ a x, ((![v123] : Fin 1 → IVec S16 32) a x).toNat < S128.size a := fun v123 k0_hw8 => k0_hw8.1
theorem k0_idx16_inb : ∀ (v123 : IVec S16 32) (k0_hw8 : k0_chk8 v123), ∀ a x, ((![v123] : Fin 1 → IVec S16 32) a x).toNat < S128.size a := fun v123 k0_hw8 => k0_hw8.2
def k0_off13 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_51 : BitVec 32 := 3#32
  let c0_i32_16 : BitVec 32 := 0#32
  let c1_i32 : BitVec 32 := 1#32
  let arg20 : BitVec 32 := Scf.iv c0_i32_16 c1_i32 k0_t1
  let v91 : BitVec 32 := Scalar.muli c3_i32_51 arg20
  let c1_i32_71 : BitVec 32 := 1#32
  let v125 : BitVec 32 := Scalar.shrsi v91 c1_i32_71
  let v126 : BitVec 32 := Scalar.addi v2 v125
  let c0_i32_74 : BitVec 32 := 0#32
  let c1_i32_72 : BitVec 32 := 1#32
  let v127 : BitVec 32 := Scalar.andi v91 c1_i32_72
  let c2048_i32_73 : BitVec 32 := 2048#32
  let v128 : BitVec 32 := Scalar.muli v127 c2048_i32_73
  ![v126.toNat, 0, v128.toNat]
def k0_cond1 (k0_t1 : Fin k0_t1_loop.trips) : BitVec 1 :=
  let c3_i32_51 : BitVec 32 := 3#32
  let c0_i32_16 : BitVec 32 := 0#32
  let c1_i32 : BitVec 32 := 1#32
  let arg20 : BitVec 32 := Scf.iv c0_i32_16 c1_i32 k0_t1
  let v91 : BitVec 32 := Scalar.muli c3_i32_51 arg20
  let c2_i32_76 : BitVec 32 := 2#32
  let v135 : BitVec 32 := Scalar.addi v91 c2_i32_76
  let c64_i32 : BitVec 32 := 64#32
  let v136 : BitVec 1 := Scalar.cmpi .slt v135 c64_i32
  let v137 : BitVec 32 := Scalar.extui v136
  let c0_i32_77 : BitVec 32 := 0#32
  let v138 : BitVec 1 := Scalar.cmpi .ne v137 c0_i32_77
  v138

def k0_cond2 (k0_t1 : Fin k0_t1_loop.trips) : BitVec 1 :=
  let c3_i32_51 : BitVec 32 := 3#32
  let c0_i32_16 : BitVec 32 := 0#32
  let c1_i32 : BitVec 32 := 1#32
  let arg20 : BitVec 32 := Scf.iv c0_i32_16 c1_i32 k0_t1
  let v91 : BitVec 32 := Scalar.muli c3_i32_51 arg20
  let c1_i32_136 : BitVec 32 := 1#32
  let v237 : BitVec 1 := Scalar.cmpi .sge v91 c1_i32_136
  let v238 : BitVec 32 := Scalar.extui v237
  let c0_i32_137 : BitVec 32 := 0#32
  let v239 : BitVec 1 := Scalar.cmpi .ne v238 c0_i32_137
  v239

def k0_off14 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_51 : BitVec 32 := 3#32
  let c0_i32_16 : BitVec 32 := 0#32
  let c1_i32 : BitVec 32 := 1#32
  let arg20 : BitVec 32 := Scf.iv c0_i32_16 c1_i32 k0_t1
  let v91 : BitVec 32 := Scalar.muli c3_i32_51 arg20
  let c1_i32_146 : BitVec 32 := 1#32
  let v257 : BitVec 32 := Scalar.subi v91 c1_i32_146
  let c1_i32_147 : BitVec 32 := 1#32
  let v258 : BitVec 32 := Scalar.shrsi v257 c1_i32_147
  let v259 : BitVec 32 := Scalar.addi v2 v258
  let c0_i32_150 : BitVec 32 := 0#32
  let c1_i32_148 : BitVec 32 := 1#32
  let v260 : BitVec 32 := Scalar.andi v257 c1_i32_148
  let c2048_i32_149 : BitVec 32 := 2048#32
  let v261 : BitVec 32 := Scalar.muli v260 c2048_i32_149
  ![v259.toNat, 0, v261.toNat]
def k0_off15 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_51 : BitVec 32 := 3#32
  let c0_i32_16 : BitVec 32 := 0#32
  let c1_i32 : BitVec 32 := 1#32
  let arg20 : BitVec 32 := Scf.iv c0_i32_16 c1_i32 k0_t1
  let v91 : BitVec 32 := Scalar.muli c3_i32_51 arg20
  let c2_i32_138 : BitVec 32 := 2#32
  let v240 : BitVec 32 := Scalar.addi v91 c2_i32_138
  let c1_i32_139 : BitVec 32 := 1#32
  let v241 : BitVec 32 := Scalar.shrsi v240 c1_i32_139
  let v242 : BitVec 32 := Scalar.addi v2 v241
  let c0_i32_142 : BitVec 32 := 0#32
  let c1_i32_140 : BitVec 32 := 1#32
  let v243 : BitVec 32 := Scalar.andi v240 c1_i32_140
  let c2048_i32_141 : BitVec 32 := 2048#32
  let v244 : BitVec 32 := Scalar.muli v243 c2048_i32_141
  ![v242.toNat, 0, v244.toNat]
def k0_off16 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_78 : BitVec 32 := 3#32
  let c0_i32_16 : BitVec 32 := 0#32
  let c1_i32 : BitVec 32 := 1#32
  let arg20 : BitVec 32 := Scf.iv c0_i32_16 c1_i32 k0_t1
  let v139 : BitVec 32 := Scalar.muli c3_i32_78 arg20
  let c1_i32_79 : BitVec 32 := 1#32
  let v140 : BitVec 32 := Scalar.addi v139 c1_i32_79
  let c1_i32_80 : BitVec 32 := 1#32
  let v141 : BitVec 32 := Scalar.shrsi v140 c1_i32_80
  let v142 : BitVec 32 := Scalar.addi v2 v141
  let c0_i32_83 : BitVec 32 := 0#32
  let c1_i32_81 : BitVec 32 := 1#32
  let v143 : BitVec 32 := Scalar.andi v140 c1_i32_81
  let c2048_i32_82 : BitVec 32 := 2048#32
  let v144 : BitVec 32 := Scalar.muli v143 c2048_i32_82
  ![v142.toNat, 0, v144.toNat]
@[reducible] def k0_t3_loop : Scf.Loop 32 :=
  let c0_i32_95 : BitVec 32 := 0#32
  let c128_i32_96 : BitVec 32 := 128#32
  let v173 : BitVec 32 := Scalar.addi c0_i32_95 c128_i32_96
  let c1_i32_97 : BitVec 32 := 1#32
  ⟨c0_i32_95, v173, c1_i32_97⟩
def k0_off17 (k0_t3 : Fin k0_t3_loop.trips) : Fin 2 → Nat :=
  let c0_i32_137 : BitVec 32 := 0#32
  let c0_i32_95 : BitVec 32 := 0#32
  let c1_i32_97 : BitVec 32 := 1#32
  let arg21 : BitVec 32 := Scf.iv c0_i32_95 c1_i32_97 k0_t3
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off18 (k0_t3 : Fin k0_t3_loop.trips) : Fin 2 → Nat :=
  let c0_i32_137 : BitVec 32 := 0#32
  let c0_i32_95 : BitVec 32 := 0#32
  let c1_i32_97 : BitVec 32 := 1#32
  let arg21 : BitVec 32 := Scf.iv c0_i32_95 c1_i32_97 k0_t3
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off19 (k0_t3 : Fin k0_t3_loop.trips) : Fin 2 → Nat :=
  let c0_i32_137 : BitVec 32 := 0#32
  let c0_i32_95 : BitVec 32 := 0#32
  let c1_i32_97 : BitVec 32 := 1#32
  let arg21 : BitVec 32 := Scf.iv c0_i32_95 c1_i32_97 k0_t3
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off20 (k0_t3 : Fin k0_t3_loop.trips) : Fin 2 → Nat :=
  let c0_i32_137 : BitVec 32 := 0#32
  let c0_i32_95 : BitVec 32 := 0#32
  let c1_i32_97 : BitVec 32 := 1#32
  let arg21 : BitVec 32 := Scf.iv c0_i32_95 c1_i32_97 k0_t3
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off21 (k0_t3 : Fin k0_t3_loop.trips) : Fin 2 → Nat :=
  let c0_i32_137 : BitVec 32 := 0#32
  let c0_i32_95 : BitVec 32 := 0#32
  let c1_i32_97 : BitVec 32 := 1#32
  let arg21 : BitVec 32 := Scf.iv c0_i32_95 c1_i32_97 k0_t3
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off22 (k0_t3 : Fin k0_t3_loop.trips) : Fin 2 → Nat :=
  let c0_i32_137 : BitVec 32 := 0#32
  let c0_i32_95 : BitVec 32 := 0#32
  let c1_i32_97 : BitVec 32 := 1#32
  let arg21 : BitVec 32 := Scf.iv c0_i32_95 c1_i32_97 k0_t3
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off23 (k0_t3 : Fin k0_t3_loop.trips) : Fin 2 → Nat :=
  let c0_i32_137 : BitVec 32 := 0#32
  let c0_i32_95 : BitVec 32 := 0#32
  let c1_i32_97 : BitVec 32 := 1#32
  let arg21 : BitVec 32 := Scf.iv c0_i32_95 c1_i32_97 k0_t3
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off24 (k0_t3 : Fin k0_t3_loop.trips) : Fin 2 → Nat :=
  let c0_i32_137 : BitVec 32 := 0#32
  let c0_i32_95 : BitVec 32 := 0#32
  let c1_i32_97 : BitVec 32 := 1#32
  let arg21 : BitVec 32 := Scf.iv c0_i32_95 c1_i32_97 k0_t3
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off25 (k0_t3 : Fin k0_t3_loop.trips) : Fin 2 → Nat :=
  let c0_i32_137 : BitVec 32 := 0#32
  let c0_i32_95 : BitVec 32 := 0#32
  let c1_i32_97 : BitVec 32 := 1#32
  let arg21 : BitVec 32 := Scf.iv c0_i32_95 c1_i32_97 k0_t3
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]

def k0_chk9 (v158 : IVec S16 32) : Prop :=
  (∀ a x, ((![v158] : Fin 1 → IVec S16 32) a x).toNat < S128.size a) ∧
  (∀ a x, ((![v158] : Fin 1 → IVec S16 32) a x).toNat < S128.size a)
theorem k0_idx17_inb : ∀ (v158 : IVec S16 32) (k0_hw9 : k0_chk9 v158), ∀ a x, ((![v158] : Fin 1 → IVec S16 32) a x).toNat < S128.size a := fun v158 k0_hw9 => k0_hw9.1
theorem k0_idx25_inb : ∀ (v158 : IVec S16 32) (k0_hw9 : k0_chk9 v158), ∀ a x, ((![v158] : Fin 1 → IVec S16 32) a x).toNat < S128.size a := fun v158 k0_hw9 => k0_hw9.2

def k0_chk10 (v160 : IVec S16 32) : Prop :=
  (∀ a x, ((![v160] : Fin 1 → IVec S16 32) a x).toNat < S128.size a) ∧
  (∀ a x, ((![v160] : Fin 1 → IVec S16 32) a x).toNat < S128.size a)
theorem k0_idx18_inb : ∀ (v160 : IVec S16 32) (k0_hw10 : k0_chk10 v160), ∀ a x, ((![v160] : Fin 1 → IVec S16 32) a x).toNat < S128.size a := fun v160 k0_hw10 => k0_hw10.1
theorem k0_idx26_inb : ∀ (v160 : IVec S16 32) (k0_hw10 : k0_chk10 v160), ∀ a x, ((![v160] : Fin 1 → IVec S16 32) a x).toNat < S128.size a := fun v160 k0_hw10 => k0_hw10.2

def k0_chk11 (v162 : IVec S16 32) : Prop :=
  (∀ a x, ((![v162] : Fin 1 → IVec S16 32) a x).toNat < S128.size a) ∧
  (∀ a x, ((![v162] : Fin 1 → IVec S16 32) a x).toNat < S128.size a)
theorem k0_idx19_inb : ∀ (v162 : IVec S16 32) (k0_hw11 : k0_chk11 v162), ∀ a x, ((![v162] : Fin 1 → IVec S16 32) a x).toNat < S128.size a := fun v162 k0_hw11 => k0_hw11.1
theorem k0_idx27_inb : ∀ (v162 : IVec S16 32) (k0_hw11 : k0_chk11 v162), ∀ a x, ((![v162] : Fin 1 → IVec S16 32) a x).toNat < S128.size a := fun v162 k0_hw11 => k0_hw11.2

def k0_chk12 (v164 : IVec S16 32) : Prop :=
  (∀ a x, ((![v164] : Fin 1 → IVec S16 32) a x).toNat < S128.size a) ∧
  (∀ a x, ((![v164] : Fin 1 → IVec S16 32) a x).toNat < S128.size a)
theorem k0_idx20_inb : ∀ (v164 : IVec S16 32) (k0_hw12 : k0_chk12 v164), ∀ a x, ((![v164] : Fin 1 → IVec S16 32) a x).toNat < S128.size a := fun v164 k0_hw12 => k0_hw12.1
theorem k0_idx28_inb : ∀ (v164 : IVec S16 32) (k0_hw12 : k0_chk12 v164), ∀ a x, ((![v164] : Fin 1 → IVec S16 32) a x).toNat < S128.size a := fun v164 k0_hw12 => k0_hw12.2

def k0_chk13 (v166 : IVec S16 32) : Prop :=
  (∀ a x, ((![v166] : Fin 1 → IVec S16 32) a x).toNat < S128.size a) ∧
  (∀ a x, ((![v166] : Fin 1 → IVec S16 32) a x).toNat < S128.size a)
theorem k0_idx21_inb : ∀ (v166 : IVec S16 32) (k0_hw13 : k0_chk13 v166), ∀ a x, ((![v166] : Fin 1 → IVec S16 32) a x).toNat < S128.size a := fun v166 k0_hw13 => k0_hw13.1
theorem k0_idx29_inb : ∀ (v166 : IVec S16 32) (k0_hw13 : k0_chk13 v166), ∀ a x, ((![v166] : Fin 1 → IVec S16 32) a x).toNat < S128.size a := fun v166 k0_hw13 => k0_hw13.2

def k0_chk14 (v168 : IVec S16 32) : Prop :=
  (∀ a x, ((![v168] : Fin 1 → IVec S16 32) a x).toNat < S128.size a) ∧
  (∀ a x, ((![v168] : Fin 1 → IVec S16 32) a x).toNat < S128.size a)
theorem k0_idx22_inb : ∀ (v168 : IVec S16 32) (k0_hw14 : k0_chk14 v168), ∀ a x, ((![v168] : Fin 1 → IVec S16 32) a x).toNat < S128.size a := fun v168 k0_hw14 => k0_hw14.1
theorem k0_idx30_inb : ∀ (v168 : IVec S16 32) (k0_hw14 : k0_chk14 v168), ∀ a x, ((![v168] : Fin 1 → IVec S16 32) a x).toNat < S128.size a := fun v168 k0_hw14 => k0_hw14.2

def k0_chk15 (v170 : IVec S16 32) : Prop :=
  (∀ a x, ((![v170] : Fin 1 → IVec S16 32) a x).toNat < S128.size a) ∧
  (∀ a x, ((![v170] : Fin 1 → IVec S16 32) a x).toNat < S128.size a)
theorem k0_idx23_inb : ∀ (v170 : IVec S16 32) (k0_hw15 : k0_chk15 v170), ∀ a x, ((![v170] : Fin 1 → IVec S16 32) a x).toNat < S128.size a := fun v170 k0_hw15 => k0_hw15.1
theorem k0_idx31_inb : ∀ (v170 : IVec S16 32) (k0_hw15 : k0_chk15 v170), ∀ a x, ((![v170] : Fin 1 → IVec S16 32) a x).toNat < S128.size a := fun v170 k0_hw15 => k0_hw15.2

def k0_chk16 (v172 : IVec S16 32) : Prop :=
  (∀ a x, ((![v172] : Fin 1 → IVec S16 32) a x).toNat < S128.size a) ∧
  (∀ a x, ((![v172] : Fin 1 → IVec S16 32) a x).toNat < S128.size a)
theorem k0_idx24_inb : ∀ (v172 : IVec S16 32) (k0_hw16 : k0_chk16 v172), ∀ a x, ((![v172] : Fin 1 → IVec S16 32) a x).toNat < S128.size a := fun v172 k0_hw16 => k0_hw16.1
theorem k0_idx32_inb : ∀ (v172 : IVec S16 32) (k0_hw16 : k0_chk16 v172), ∀ a x, ((![v172] : Fin 1 → IVec S16 32) a x).toNat < S128.size a := fun v172 k0_hw16 => k0_hw16.2
def k0_off26 (i : grid0.Coords) (k0_t1 : Fin k0_t1_loop.trips) (c1_i32_79 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_78 : BitVec 32 := 3#32
  let c0_i32_16 : BitVec 32 := 0#32
  let c1_i32 : BitVec 32 := 1#32
  let arg20 : BitVec 32 := Scf.iv c0_i32_16 c1_i32 k0_t1
  let v139 : BitVec 32 := Scalar.muli c3_i32_78 arg20
  let v140 : BitVec 32 := Scalar.addi v139 c1_i32_79
  let c1_i32_99 : BitVec 32 := 1#32
  let v174 : BitVec 32 := Scalar.shrsi v140 c1_i32_99
  let v175 : BitVec 32 := Scalar.addi v2 v174
  let c0_i32_102 : BitVec 32 := 0#32
  let c1_i32_100 : BitVec 32 := 1#32
  let v176 : BitVec 32 := Scalar.andi v140 c1_i32_100
  let c2048_i32_101 : BitVec 32 := 2048#32
  let v177 : BitVec 32 := Scalar.muli v176 c2048_i32_101
  ![v175.toNat, 0, v177.toNat]
def k0_cond3 (k0_t1 : Fin k0_t1_loop.trips) : BitVec 1 :=
  let c3_i32_78 : BitVec 32 := 3#32
  let c0_i32_16 : BitVec 32 := 0#32
  let c1_i32 : BitVec 32 := 1#32
  let arg20 : BitVec 32 := Scf.iv c0_i32_16 c1_i32 k0_t1
  let v139 : BitVec 32 := Scalar.muli c3_i32_78 arg20
  let c1_i32_79 : BitVec 32 := 1#32
  let v140 : BitVec 32 := Scalar.addi v139 c1_i32_79
  let c2_i32_104 : BitVec 32 := 2#32
  let v184 : BitVec 32 := Scalar.addi v140 c2_i32_104
  let c64_i32_105 : BitVec 32 := 64#32
  let v185 : BitVec 1 := Scalar.cmpi .slt v184 c64_i32_105
  let v186 : BitVec 32 := Scalar.extui v185
  let c0_i32_106 : BitVec 32 := 0#32
  let v187 : BitVec 1 := Scalar.cmpi .ne v186 c0_i32_106
  v187

def k0_cond4 (k0_t1 : Fin k0_t1_loop.trips) : BitVec 1 :=
  let c3_i32_78 : BitVec 32 := 3#32
  let c0_i32_16 : BitVec 32 := 0#32
  let c1_i32 : BitVec 32 := 1#32
  let arg20 : BitVec 32 := Scf.iv c0_i32_16 c1_i32 k0_t1
  let v139 : BitVec 32 := Scalar.muli c3_i32_78 arg20
  let c1_i32_79 : BitVec 32 := 1#32
  let v140 : BitVec 32 := Scalar.addi v139 c1_i32_79
  let c1_i32_136 : BitVec 32 := 1#32
  let v237 : BitVec 1 := Scalar.cmpi .sge v140 c1_i32_136
  let v238 : BitVec 32 := Scalar.extui v237
  let c0_i32_137 : BitVec 32 := 0#32
  let v239 : BitVec 1 := Scalar.cmpi .ne v238 c0_i32_137
  v239

def k0_off27 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_78 : BitVec 32 := 3#32
  let c0_i32_16 : BitVec 32 := 0#32
  let c1_i32 : BitVec 32 := 1#32
  let arg20 : BitVec 32 := Scf.iv c0_i32_16 c1_i32 k0_t1
  let v139 : BitVec 32 := Scalar.muli c3_i32_78 arg20
  let c1_i32_79 : BitVec 32 := 1#32
  let v140 : BitVec 32 := Scalar.addi v139 c1_i32_79
  let c1_i32_146 : BitVec 32 := 1#32
  let v257 : BitVec 32 := Scalar.subi v140 c1_i32_146
  let c1_i32_147 : BitVec 32 := 1#32
  let v258 : BitVec 32 := Scalar.shrsi v257 c1_i32_147
  let v259 : BitVec 32 := Scalar.addi v2 v258
  let c0_i32_150 : BitVec 32 := 0#32
  let c1_i32_148 : BitVec 32 := 1#32
  let v260 : BitVec 32 := Scalar.andi v257 c1_i32_148
  let c2048_i32_149 : BitVec 32 := 2048#32
  let v261 : BitVec 32 := Scalar.muli v260 c2048_i32_149
  ![v259.toNat, 0, v261.toNat]
def k0_off28 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_78 : BitVec 32 := 3#32
  let c0_i32_16 : BitVec 32 := 0#32
  let c1_i32 : BitVec 32 := 1#32
  let arg20 : BitVec 32 := Scf.iv c0_i32_16 c1_i32 k0_t1
  let v139 : BitVec 32 := Scalar.muli c3_i32_78 arg20
  let c1_i32_79 : BitVec 32 := 1#32
  let v140 : BitVec 32 := Scalar.addi v139 c1_i32_79
  let c2_i32_138 : BitVec 32 := 2#32
  let v240 : BitVec 32 := Scalar.addi v140 c2_i32_138
  let c1_i32_139 : BitVec 32 := 1#32
  let v241 : BitVec 32 := Scalar.shrsi v240 c1_i32_139
  let v242 : BitVec 32 := Scalar.addi v2 v241
  let c0_i32_142 : BitVec 32 := 0#32
  let c1_i32_140 : BitVec 32 := 1#32
  let v243 : BitVec 32 := Scalar.andi v240 c1_i32_140
  let c2048_i32_141 : BitVec 32 := 2048#32
  let v244 : BitVec 32 := Scalar.muli v243 c2048_i32_141
  ![v242.toNat, 0, v244.toNat]
@[reducible] def k0_t4_loop : Scf.Loop 32 :=
  let c0_i32_124 : BitVec 32 := 0#32
  let c128_i32_125 : BitVec 32 := 128#32
  let v222 : BitVec 32 := Scalar.addi c0_i32_124 c128_i32_125
  let c1_i32_126 : BitVec 32 := 1#32
  ⟨c0_i32_124, v222, c1_i32_126⟩
def k0_off29 (k0_t4 : Fin k0_t4_loop.trips) : Fin 2 → Nat :=
  let c0_i32_137 : BitVec 32 := 0#32
  let c0_i32_124 : BitVec 32 := 0#32
  let c1_i32_126 : BitVec 32 := 1#32
  let arg21 : BitVec 32 := Scf.iv c0_i32_124 c1_i32_126 k0_t4
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off30 (k0_t4 : Fin k0_t4_loop.trips) : Fin 2 → Nat :=
  let c0_i32_137 : BitVec 32 := 0#32
  let c0_i32_124 : BitVec 32 := 0#32
  let c1_i32_126 : BitVec 32 := 1#32
  let arg21 : BitVec 32 := Scf.iv c0_i32_124 c1_i32_126 k0_t4
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off31 (k0_t4 : Fin k0_t4_loop.trips) : Fin 2 → Nat :=
  let c0_i32_137 : BitVec 32 := 0#32
  let c0_i32_124 : BitVec 32 := 0#32
  let c1_i32_126 : BitVec 32 := 1#32
  let arg21 : BitVec 32 := Scf.iv c0_i32_124 c1_i32_126 k0_t4
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off32 (k0_t4 : Fin k0_t4_loop.trips) : Fin 2 → Nat :=
  let c0_i32_137 : BitVec 32 := 0#32
  let c0_i32_124 : BitVec 32 := 0#32
  let c1_i32_126 : BitVec 32 := 1#32
  let arg21 : BitVec 32 := Scf.iv c0_i32_124 c1_i32_126 k0_t4
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off33 (k0_t4 : Fin k0_t4_loop.trips) : Fin 2 → Nat :=
  let c0_i32_137 : BitVec 32 := 0#32
  let c0_i32_124 : BitVec 32 := 0#32
  let c1_i32_126 : BitVec 32 := 1#32
  let arg21 : BitVec 32 := Scf.iv c0_i32_124 c1_i32_126 k0_t4
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off34 (k0_t4 : Fin k0_t4_loop.trips) : Fin 2 → Nat :=
  let c0_i32_137 : BitVec 32 := 0#32
  let c0_i32_124 : BitVec 32 := 0#32
  let c1_i32_126 : BitVec 32 := 1#32
  let arg21 : BitVec 32 := Scf.iv c0_i32_124 c1_i32_126 k0_t4
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off35 (k0_t4 : Fin k0_t4_loop.trips) : Fin 2 → Nat :=
  let c0_i32_137 : BitVec 32 := 0#32
  let c0_i32_124 : BitVec 32 := 0#32
  let c1_i32_126 : BitVec 32 := 1#32
  let arg21 : BitVec 32 := Scf.iv c0_i32_124 c1_i32_126 k0_t4
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off36 (k0_t4 : Fin k0_t4_loop.trips) : Fin 2 → Nat :=
  let c0_i32_137 : BitVec 32 := 0#32
  let c0_i32_124 : BitVec 32 := 0#32
  let c1_i32_126 : BitVec 32 := 1#32
  let arg21 : BitVec 32 := Scf.iv c0_i32_124 c1_i32_126 k0_t4
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]
def k0_off37 (k0_t4 : Fin k0_t4_loop.trips) : Fin 2 → Nat :=
  let c0_i32_137 : BitVec 32 := 0#32
  let c0_i32_124 : BitVec 32 := 0#32
  let c1_i32_126 : BitVec 32 := 1#32
  let arg21 : BitVec 32 := Scf.iv c0_i32_124 c1_i32_126 k0_t4
  let c1_i32_136 : BitVec 32 := 1#32
  let v237 : BitVec 32 := Scalar.muli arg21 c1_i32_136
  let v238 : BitVec 32 := Scalar.addi c0_i32_137 v237
  let c4_i32_138 : BitVec 32 := 4#32
  let v239 : BitVec 32 := Scalar.shrsi v238 c4_i32_138
  let c15_i32 : BitVec 32 := 15#32
  let v240 : BitVec 32 := Scalar.andi v238 c15_i32
  let c128_i32_139 : BitVec 32 := 128#32
  let v241 : BitVec 32 := Scalar.muli v240 c128_i32_139
  ![v239.toNat, v241.toNat]

def k0_chk17 (v207 : IVec S16 32) : Prop :=
  (∀ a x, ((![v207] : Fin 1 → IVec S16 32) a x).toNat < S128.size a) ∧
  (∀ a x, ((![v207] : Fin 1 → IVec S16 32) a x).toNat < S128.size a)
theorem k0_idx33_inb : ∀ (v207 : IVec S16 32) (k0_hw17 : k0_chk17 v207), ∀ a x, ((![v207] : Fin 1 → IVec S16 32) a x).toNat < S128.size a := fun v207 k0_hw17 => k0_hw17.1
theorem k0_idx41_inb : ∀ (v207 : IVec S16 32) (k0_hw17 : k0_chk17 v207), ∀ a x, ((![v207] : Fin 1 → IVec S16 32) a x).toNat < S128.size a := fun v207 k0_hw17 => k0_hw17.2

def k0_chk18 (v209 : IVec S16 32) : Prop :=
  (∀ a x, ((![v209] : Fin 1 → IVec S16 32) a x).toNat < S128.size a) ∧
  (∀ a x, ((![v209] : Fin 1 → IVec S16 32) a x).toNat < S128.size a)
theorem k0_idx34_inb : ∀ (v209 : IVec S16 32) (k0_hw18 : k0_chk18 v209), ∀ a x, ((![v209] : Fin 1 → IVec S16 32) a x).toNat < S128.size a := fun v209 k0_hw18 => k0_hw18.1
theorem k0_idx42_inb : ∀ (v209 : IVec S16 32) (k0_hw18 : k0_chk18 v209), ∀ a x, ((![v209] : Fin 1 → IVec S16 32) a x).toNat < S128.size a := fun v209 k0_hw18 => k0_hw18.2

def k0_chk19 (v211 : IVec S16 32) : Prop :=
  (∀ a x, ((![v211] : Fin 1 → IVec S16 32) a x).toNat < S128.size a) ∧
  (∀ a x, ((![v211] : Fin 1 → IVec S16 32) a x).toNat < S128.size a)
theorem k0_idx35_inb : ∀ (v211 : IVec S16 32) (k0_hw19 : k0_chk19 v211), ∀ a x, ((![v211] : Fin 1 → IVec S16 32) a x).toNat < S128.size a := fun v211 k0_hw19 => k0_hw19.1
theorem k0_idx43_inb : ∀ (v211 : IVec S16 32) (k0_hw19 : k0_chk19 v211), ∀ a x, ((![v211] : Fin 1 → IVec S16 32) a x).toNat < S128.size a := fun v211 k0_hw19 => k0_hw19.2

def k0_chk20 (v213 : IVec S16 32) : Prop :=
  (∀ a x, ((![v213] : Fin 1 → IVec S16 32) a x).toNat < S128.size a) ∧
  (∀ a x, ((![v213] : Fin 1 → IVec S16 32) a x).toNat < S128.size a)
theorem k0_idx36_inb : ∀ (v213 : IVec S16 32) (k0_hw20 : k0_chk20 v213), ∀ a x, ((![v213] : Fin 1 → IVec S16 32) a x).toNat < S128.size a := fun v213 k0_hw20 => k0_hw20.1
theorem k0_idx44_inb : ∀ (v213 : IVec S16 32) (k0_hw20 : k0_chk20 v213), ∀ a x, ((![v213] : Fin 1 → IVec S16 32) a x).toNat < S128.size a := fun v213 k0_hw20 => k0_hw20.2

def k0_chk21 (v215 : IVec S16 32) : Prop :=
  (∀ a x, ((![v215] : Fin 1 → IVec S16 32) a x).toNat < S128.size a) ∧
  (∀ a x, ((![v215] : Fin 1 → IVec S16 32) a x).toNat < S128.size a)
theorem k0_idx37_inb : ∀ (v215 : IVec S16 32) (k0_hw21 : k0_chk21 v215), ∀ a x, ((![v215] : Fin 1 → IVec S16 32) a x).toNat < S128.size a := fun v215 k0_hw21 => k0_hw21.1
theorem k0_idx45_inb : ∀ (v215 : IVec S16 32) (k0_hw21 : k0_chk21 v215), ∀ a x, ((![v215] : Fin 1 → IVec S16 32) a x).toNat < S128.size a := fun v215 k0_hw21 => k0_hw21.2

def k0_chk22 (v217 : IVec S16 32) : Prop :=
  (∀ a x, ((![v217] : Fin 1 → IVec S16 32) a x).toNat < S128.size a) ∧
  (∀ a x, ((![v217] : Fin 1 → IVec S16 32) a x).toNat < S128.size a)
theorem k0_idx38_inb : ∀ (v217 : IVec S16 32) (k0_hw22 : k0_chk22 v217), ∀ a x, ((![v217] : Fin 1 → IVec S16 32) a x).toNat < S128.size a := fun v217 k0_hw22 => k0_hw22.1
theorem k0_idx46_inb : ∀ (v217 : IVec S16 32) (k0_hw22 : k0_chk22 v217), ∀ a x, ((![v217] : Fin 1 → IVec S16 32) a x).toNat < S128.size a := fun v217 k0_hw22 => k0_hw22.2

def k0_chk23 (v219 : IVec S16 32) : Prop :=
  (∀ a x, ((![v219] : Fin 1 → IVec S16 32) a x).toNat < S128.size a) ∧
  (∀ a x, ((![v219] : Fin 1 → IVec S16 32) a x).toNat < S128.size a)
theorem k0_idx39_inb : ∀ (v219 : IVec S16 32) (k0_hw23 : k0_chk23 v219), ∀ a x, ((![v219] : Fin 1 → IVec S16 32) a x).toNat < S128.size a := fun v219 k0_hw23 => k0_hw23.1
theorem k0_idx47_inb : ∀ (v219 : IVec S16 32) (k0_hw23 : k0_chk23 v219), ∀ a x, ((![v219] : Fin 1 → IVec S16 32) a x).toNat < S128.size a := fun v219 k0_hw23 => k0_hw23.2

def k0_chk24 (v221 : IVec S16 32) : Prop :=
  (∀ a x, ((![v221] : Fin 1 → IVec S16 32) a x).toNat < S128.size a) ∧
  (∀ a x, ((![v221] : Fin 1 → IVec S16 32) a x).toNat < S128.size a)
theorem k0_idx40_inb : ∀ (v221 : IVec S16 32) (k0_hw24 : k0_chk24 v221), ∀ a x, ((![v221] : Fin 1 → IVec S16 32) a x).toNat < S128.size a := fun v221 k0_hw24 => k0_hw24.1
theorem k0_idx48_inb : ∀ (v221 : IVec S16 32) (k0_hw24 : k0_chk24 v221), ∀ a x, ((![v221] : Fin 1 → IVec S16 32) a x).toNat < S128.size a := fun v221 k0_hw24 => k0_hw24.2
def k0_off38 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_107 : BitVec 32 := 3#32
  let c0_i32_16 : BitVec 32 := 0#32
  let c1_i32 : BitVec 32 := 1#32
  let arg20 : BitVec 32 := Scf.iv c0_i32_16 c1_i32 k0_t1
  let v188 : BitVec 32 := Scalar.muli c3_i32_107 arg20
  let c2_i32_108 : BitVec 32 := 2#32
  let v189 : BitVec 32 := Scalar.addi v188 c2_i32_108
  let c1_i32_128 : BitVec 32 := 1#32
  let v223 : BitVec 32 := Scalar.shrsi v189 c1_i32_128
  let v224 : BitVec 32 := Scalar.addi v2 v223
  let c0_i32_131 : BitVec 32 := 0#32
  let c1_i32_129 : BitVec 32 := 1#32
  let v225 : BitVec 32 := Scalar.andi v189 c1_i32_129
  let c2048_i32_130 : BitVec 32 := 2048#32
  let v226 : BitVec 32 := Scalar.muli v225 c2048_i32_130
  ![v224.toNat, 0, v226.toNat]
def k0_cond5 (k0_t1 : Fin k0_t1_loop.trips) : BitVec 1 :=
  let c3_i32_107 : BitVec 32 := 3#32
  let c0_i32_16 : BitVec 32 := 0#32
  let c1_i32 : BitVec 32 := 1#32
  let arg20 : BitVec 32 := Scf.iv c0_i32_16 c1_i32 k0_t1
  let v188 : BitVec 32 := Scalar.muli c3_i32_107 arg20
  let c2_i32_108 : BitVec 32 := 2#32
  let v189 : BitVec 32 := Scalar.addi v188 c2_i32_108
  let c2_i32_133 : BitVec 32 := 2#32
  let v233 : BitVec 32 := Scalar.addi v189 c2_i32_133
  let c64_i32_134 : BitVec 32 := 64#32
  let v234 : BitVec 1 := Scalar.cmpi .slt v233 c64_i32_134
  let v235 : BitVec 32 := Scalar.extui v234
  let c0_i32_135 : BitVec 32 := 0#32
  let v236 : BitVec 1 := Scalar.cmpi .ne v235 c0_i32_135
  v236

def k0_cond6 (k0_t1 : Fin k0_t1_loop.trips) : BitVec 1 :=
  let c3_i32_107 : BitVec 32 := 3#32
  let c0_i32_16 : BitVec 32 := 0#32
  let c1_i32 : BitVec 32 := 1#32
  let arg20 : BitVec 32 := Scf.iv c0_i32_16 c1_i32 k0_t1
  let v188 : BitVec 32 := Scalar.muli c3_i32_107 arg20
  let c2_i32_108 : BitVec 32 := 2#32
  let v189 : BitVec 32 := Scalar.addi v188 c2_i32_108
  let c1_i32_136 : BitVec 32 := 1#32
  let v237 : BitVec 1 := Scalar.cmpi .sge v189 c1_i32_136
  let v238 : BitVec 32 := Scalar.extui v237
  let c0_i32_137 : BitVec 32 := 0#32
  let v239 : BitVec 1 := Scalar.cmpi .ne v238 c0_i32_137
  v239

def k0_off39 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_107 : BitVec 32 := 3#32
  let c0_i32_16 : BitVec 32 := 0#32
  let c1_i32 : BitVec 32 := 1#32
  let arg20 : BitVec 32 := Scf.iv c0_i32_16 c1_i32 k0_t1
  let v188 : BitVec 32 := Scalar.muli c3_i32_107 arg20
  let c2_i32_108 : BitVec 32 := 2#32
  let v189 : BitVec 32 := Scalar.addi v188 c2_i32_108
  let c1_i32_146 : BitVec 32 := 1#32
  let v257 : BitVec 32 := Scalar.subi v189 c1_i32_146
  let c1_i32_147 : BitVec 32 := 1#32
  let v258 : BitVec 32 := Scalar.shrsi v257 c1_i32_147
  let v259 : BitVec 32 := Scalar.addi v2 v258
  let c0_i32_150 : BitVec 32 := 0#32
  let c1_i32_148 : BitVec 32 := 1#32
  let v260 : BitVec 32 := Scalar.andi v257 c1_i32_148
  let c2048_i32_149 : BitVec 32 := 2048#32
  let v261 : BitVec 32 := Scalar.muli v260 c2048_i32_149
  ![v259.toNat, 0, v261.toNat]
def k0_off40 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c3_i32_107 : BitVec 32 := 3#32
  let c0_i32_16 : BitVec 32 := 0#32
  let c1_i32 : BitVec 32 := 1#32
  let arg20 : BitVec 32 := Scf.iv c0_i32_16 c1_i32 k0_t1
  let v188 : BitVec 32 := Scalar.muli c3_i32_107 arg20
  let c2_i32_108 : BitVec 32 := 2#32
  let v189 : BitVec 32 := Scalar.addi v188 c2_i32_108
  let c2_i32_138 : BitVec 32 := 2#32
  let v240 : BitVec 32 := Scalar.addi v189 c2_i32_138
  let c1_i32_139 : BitVec 32 := 1#32
  let v241 : BitVec 32 := Scalar.shrsi v240 c1_i32_139
  let v242 : BitVec 32 := Scalar.addi v2 v241
  let c0_i32_142 : BitVec 32 := 0#32
  let c1_i32_140 : BitVec 32 := 1#32
  let v243 : BitVec 32 := Scalar.andi v240 c1_i32_140
  let c2048_i32_141 : BitVec 32 := 2048#32
  let v244 : BitVec 32 := Scalar.muli v243 c2048_i32_141
  ![v242.toNat, 0, v244.toNat]
@[reducible] def k0_t5_loop : Scf.Loop 32 :=
  let c0_i32_29 : BitVec 32 := 0#32
  let c128_i32 : BitVec 32 := 128#32
  let v62 : BitVec 32 := Scalar.addi c0_i32_29 c128_i32
  let c1_i32_30 : BitVec 32 := 1#32
  ⟨c0_i32_29, v62, c1_i32_30⟩
def k0_off41 (k0_t5 : Fin k0_t5_loop.trips) : Fin 2 → Nat :=
  let c0_i32_52 : BitVec 32 := 0#32
  let c0_i32_29 : BitVec 32 := 0#32
  let c1_i32_30 : BitVec 32 := 1#32
  let arg20 : BitVec 32 := Scf.iv c0_i32_29 c1_i32_30 k0_t5
  let c1_i32_51 : BitVec 32 := 1#32
  let v91 : BitVec 32 := Scalar.muli arg20 c1_i32_51
  let v92 : BitVec 32 := Scalar.addi c0_i32_52 v91
  let c4_i32_53 : BitVec 32 := 4#32
  let v93 : BitVec 32 := Scalar.shrsi v92 c4_i32_53
  let c15_i32 : BitVec 32 := 15#32
  let v94 : BitVec 32 := Scalar.andi v92 c15_i32
  let c128_i32_54 : BitVec 32 := 128#32
  let v95 : BitVec 32 := Scalar.muli v94 c128_i32_54
  ![v93.toNat, v95.toNat]
def k0_off42 (k0_t5 : Fin k0_t5_loop.trips) : Fin 2 → Nat :=
  let c0_i32_52 : BitVec 32 := 0#32
  let c0_i32_29 : BitVec 32 := 0#32
  let c1_i32_30 : BitVec 32 := 1#32
  let arg20 : BitVec 32 := Scf.iv c0_i32_29 c1_i32_30 k0_t5
  let c1_i32_51 : BitVec 32 := 1#32
  let v91 : BitVec 32 := Scalar.muli arg20 c1_i32_51
  let v92 : BitVec 32 := Scalar.addi c0_i32_52 v91
  let c4_i32_53 : BitVec 32 := 4#32
  let v93 : BitVec 32 := Scalar.shrsi v92 c4_i32_53
  let c15_i32 : BitVec 32 := 15#32
  let v94 : BitVec 32 := Scalar.andi v92 c15_i32
  let c128_i32_54 : BitVec 32 := 128#32
  let v95 : BitVec 32 := Scalar.muli v94 c128_i32_54
  ![v93.toNat, v95.toNat]
def k0_off43 (k0_t5 : Fin k0_t5_loop.trips) : Fin 2 → Nat :=
  let c0_i32_52 : BitVec 32 := 0#32
  let c0_i32_29 : BitVec 32 := 0#32
  let c1_i32_30 : BitVec 32 := 1#32
  let arg20 : BitVec 32 := Scf.iv c0_i32_29 c1_i32_30 k0_t5
  let c1_i32_51 : BitVec 32 := 1#32
  let v91 : BitVec 32 := Scalar.muli arg20 c1_i32_51
  let v92 : BitVec 32 := Scalar.addi c0_i32_52 v91
  let c4_i32_53 : BitVec 32 := 4#32
  let v93 : BitVec 32 := Scalar.shrsi v92 c4_i32_53
  let c15_i32 : BitVec 32 := 15#32
  let v94 : BitVec 32 := Scalar.andi v92 c15_i32
  let c128_i32_54 : BitVec 32 := 128#32
  let v95 : BitVec 32 := Scalar.muli v94 c128_i32_54
  ![v93.toNat, v95.toNat]
def k0_off44 (k0_t5 : Fin k0_t5_loop.trips) : Fin 2 → Nat :=
  let c0_i32_52 : BitVec 32 := 0#32
  let c0_i32_29 : BitVec 32 := 0#32
  let c1_i32_30 : BitVec 32 := 1#32
  let arg20 : BitVec 32 := Scf.iv c0_i32_29 c1_i32_30 k0_t5
  let c1_i32_51 : BitVec 32 := 1#32
  let v91 : BitVec 32 := Scalar.muli arg20 c1_i32_51
  let v92 : BitVec 32 := Scalar.addi c0_i32_52 v91
  let c4_i32_53 : BitVec 32 := 4#32
  let v93 : BitVec 32 := Scalar.shrsi v92 c4_i32_53
  let c15_i32 : BitVec 32 := 15#32
  let v94 : BitVec 32 := Scalar.andi v92 c15_i32
  let c128_i32_54 : BitVec 32 := 128#32
  let v95 : BitVec 32 := Scalar.muli v94 c128_i32_54
  ![v93.toNat, v95.toNat]
def k0_off45 (k0_t5 : Fin k0_t5_loop.trips) : Fin 2 → Nat :=
  let c0_i32_52 : BitVec 32 := 0#32
  let c0_i32_29 : BitVec 32 := 0#32
  let c1_i32_30 : BitVec 32 := 1#32
  let arg20 : BitVec 32 := Scf.iv c0_i32_29 c1_i32_30 k0_t5
  let c1_i32_51 : BitVec 32 := 1#32
  let v91 : BitVec 32 := Scalar.muli arg20 c1_i32_51
  let v92 : BitVec 32 := Scalar.addi c0_i32_52 v91
  let c4_i32_53 : BitVec 32 := 4#32
  let v93 : BitVec 32 := Scalar.shrsi v92 c4_i32_53
  let c15_i32 : BitVec 32 := 15#32
  let v94 : BitVec 32 := Scalar.andi v92 c15_i32
  let c128_i32_54 : BitVec 32 := 128#32
  let v95 : BitVec 32 := Scalar.muli v94 c128_i32_54
  ![v93.toNat, v95.toNat]
def k0_off46 (k0_t5 : Fin k0_t5_loop.trips) : Fin 2 → Nat :=
  let c0_i32_52 : BitVec 32 := 0#32
  let c0_i32_29 : BitVec 32 := 0#32
  let c1_i32_30 : BitVec 32 := 1#32
  let arg20 : BitVec 32 := Scf.iv c0_i32_29 c1_i32_30 k0_t5
  let c1_i32_51 : BitVec 32 := 1#32
  let v91 : BitVec 32 := Scalar.muli arg20 c1_i32_51
  let v92 : BitVec 32 := Scalar.addi c0_i32_52 v91
  let c4_i32_53 : BitVec 32 := 4#32
  let v93 : BitVec 32 := Scalar.shrsi v92 c4_i32_53
  let c15_i32 : BitVec 32 := 15#32
  let v94 : BitVec 32 := Scalar.andi v92 c15_i32
  let c128_i32_54 : BitVec 32 := 128#32
  let v95 : BitVec 32 := Scalar.muli v94 c128_i32_54
  ![v93.toNat, v95.toNat]
def k0_off47 (k0_t5 : Fin k0_t5_loop.trips) : Fin 2 → Nat :=
  let c0_i32_52 : BitVec 32 := 0#32
  let c0_i32_29 : BitVec 32 := 0#32
  let c1_i32_30 : BitVec 32 := 1#32
  let arg20 : BitVec 32 := Scf.iv c0_i32_29 c1_i32_30 k0_t5
  let c1_i32_51 : BitVec 32 := 1#32
  let v91 : BitVec 32 := Scalar.muli arg20 c1_i32_51
  let v92 : BitVec 32 := Scalar.addi c0_i32_52 v91
  let c4_i32_53 : BitVec 32 := 4#32
  let v93 : BitVec 32 := Scalar.shrsi v92 c4_i32_53
  let c15_i32 : BitVec 32 := 15#32
  let v94 : BitVec 32 := Scalar.andi v92 c15_i32
  let c128_i32_54 : BitVec 32 := 128#32
  let v95 : BitVec 32 := Scalar.muli v94 c128_i32_54
  ![v93.toNat, v95.toNat]
def k0_off48 (k0_t5 : Fin k0_t5_loop.trips) : Fin 2 → Nat :=
  let c0_i32_52 : BitVec 32 := 0#32
  let c0_i32_29 : BitVec 32 := 0#32
  let c1_i32_30 : BitVec 32 := 1#32
  let arg20 : BitVec 32 := Scf.iv c0_i32_29 c1_i32_30 k0_t5
  let c1_i32_51 : BitVec 32 := 1#32
  let v91 : BitVec 32 := Scalar.muli arg20 c1_i32_51
  let v92 : BitVec 32 := Scalar.addi c0_i32_52 v91
  let c4_i32_53 : BitVec 32 := 4#32
  let v93 : BitVec 32 := Scalar.shrsi v92 c4_i32_53
  let c15_i32 : BitVec 32 := 15#32
  let v94 : BitVec 32 := Scalar.andi v92 c15_i32
  let c128_i32_54 : BitVec 32 := 128#32
  let v95 : BitVec 32 := Scalar.muli v94 c128_i32_54
  ![v93.toNat, v95.toNat]
def k0_off49 (k0_t5 : Fin k0_t5_loop.trips) : Fin 2 → Nat :=
  let c0_i32_52 : BitVec 32 := 0#32
  let c0_i32_29 : BitVec 32 := 0#32
  let c1_i32_30 : BitVec 32 := 1#32
  let arg20 : BitVec 32 := Scf.iv c0_i32_29 c1_i32_30 k0_t5
  let c1_i32_51 : BitVec 32 := 1#32
  let v91 : BitVec 32 := Scalar.muli arg20 c1_i32_51
  let v92 : BitVec 32 := Scalar.addi c0_i32_52 v91
  let c4_i32_53 : BitVec 32 := 4#32
  let v93 : BitVec 32 := Scalar.shrsi v92 c4_i32_53
  let c15_i32 : BitVec 32 := 15#32
  let v94 : BitVec 32 := Scalar.andi v92 c15_i32
  let c128_i32_54 : BitVec 32 := 128#32
  let v95 : BitVec 32 := Scalar.muli v94 c128_i32_54
  ![v93.toNat, v95.toNat]

def k0_chk25 (v47 : IVec S16 32) : Prop :=
  (∀ a x, ((![v47] : Fin 1 → IVec S16 32) a x).toNat < S128.size a) ∧
  (∀ a x, ((![v47] : Fin 1 → IVec S16 32) a x).toNat < S128.size a)
theorem k0_idx49_inb : ∀ (v47 : IVec S16 32) (k0_hw25 : k0_chk25 v47), ∀ a x, ((![v47] : Fin 1 → IVec S16 32) a x).toNat < S128.size a := fun v47 k0_hw25 => k0_hw25.1
theorem k0_idx57_inb : ∀ (v47 : IVec S16 32) (k0_hw25 : k0_chk25 v47), ∀ a x, ((![v47] : Fin 1 → IVec S16 32) a x).toNat < S128.size a := fun v47 k0_hw25 => k0_hw25.2

def k0_chk26 (v49 : IVec S16 32) : Prop :=
  (∀ a x, ((![v49] : Fin 1 → IVec S16 32) a x).toNat < S128.size a) ∧
  (∀ a x, ((![v49] : Fin 1 → IVec S16 32) a x).toNat < S128.size a)
theorem k0_idx50_inb : ∀ (v49 : IVec S16 32) (k0_hw26 : k0_chk26 v49), ∀ a x, ((![v49] : Fin 1 → IVec S16 32) a x).toNat < S128.size a := fun v49 k0_hw26 => k0_hw26.1
theorem k0_idx58_inb : ∀ (v49 : IVec S16 32) (k0_hw26 : k0_chk26 v49), ∀ a x, ((![v49] : Fin 1 → IVec S16 32) a x).toNat < S128.size a := fun v49 k0_hw26 => k0_hw26.2

def k0_chk27 (v51 : IVec S16 32) : Prop :=
  (∀ a x, ((![v51] : Fin 1 → IVec S16 32) a x).toNat < S128.size a) ∧
  (∀ a x, ((![v51] : Fin 1 → IVec S16 32) a x).toNat < S128.size a)
theorem k0_idx51_inb : ∀ (v51 : IVec S16 32) (k0_hw27 : k0_chk27 v51), ∀ a x, ((![v51] : Fin 1 → IVec S16 32) a x).toNat < S128.size a := fun v51 k0_hw27 => k0_hw27.1
theorem k0_idx59_inb : ∀ (v51 : IVec S16 32) (k0_hw27 : k0_chk27 v51), ∀ a x, ((![v51] : Fin 1 → IVec S16 32) a x).toNat < S128.size a := fun v51 k0_hw27 => k0_hw27.2

def k0_chk28 (v53 : IVec S16 32) : Prop :=
  (∀ a x, ((![v53] : Fin 1 → IVec S16 32) a x).toNat < S128.size a) ∧
  (∀ a x, ((![v53] : Fin 1 → IVec S16 32) a x).toNat < S128.size a)
theorem k0_idx52_inb : ∀ (v53 : IVec S16 32) (k0_hw28 : k0_chk28 v53), ∀ a x, ((![v53] : Fin 1 → IVec S16 32) a x).toNat < S128.size a := fun v53 k0_hw28 => k0_hw28.1
theorem k0_idx60_inb : ∀ (v53 : IVec S16 32) (k0_hw28 : k0_chk28 v53), ∀ a x, ((![v53] : Fin 1 → IVec S16 32) a x).toNat < S128.size a := fun v53 k0_hw28 => k0_hw28.2

def k0_chk29 (v55 : IVec S16 32) : Prop :=
  (∀ a x, ((![v55] : Fin 1 → IVec S16 32) a x).toNat < S128.size a) ∧
  (∀ a x, ((![v55] : Fin 1 → IVec S16 32) a x).toNat < S128.size a)
theorem k0_idx53_inb : ∀ (v55 : IVec S16 32) (k0_hw29 : k0_chk29 v55), ∀ a x, ((![v55] : Fin 1 → IVec S16 32) a x).toNat < S128.size a := fun v55 k0_hw29 => k0_hw29.1
theorem k0_idx61_inb : ∀ (v55 : IVec S16 32) (k0_hw29 : k0_chk29 v55), ∀ a x, ((![v55] : Fin 1 → IVec S16 32) a x).toNat < S128.size a := fun v55 k0_hw29 => k0_hw29.2

def k0_chk30 (v57 : IVec S16 32) : Prop :=
  (∀ a x, ((![v57] : Fin 1 → IVec S16 32) a x).toNat < S128.size a) ∧
  (∀ a x, ((![v57] : Fin 1 → IVec S16 32) a x).toNat < S128.size a)
theorem k0_idx54_inb : ∀ (v57 : IVec S16 32) (k0_hw30 : k0_chk30 v57), ∀ a x, ((![v57] : Fin 1 → IVec S16 32) a x).toNat < S128.size a := fun v57 k0_hw30 => k0_hw30.1
theorem k0_idx62_inb : ∀ (v57 : IVec S16 32) (k0_hw30 : k0_chk30 v57), ∀ a x, ((![v57] : Fin 1 → IVec S16 32) a x).toNat < S128.size a := fun v57 k0_hw30 => k0_hw30.2

def k0_chk31 (v59 : IVec S16 32) : Prop :=
  (∀ a x, ((![v59] : Fin 1 → IVec S16 32) a x).toNat < S128.size a) ∧
  (∀ a x, ((![v59] : Fin 1 → IVec S16 32) a x).toNat < S128.size a)
theorem k0_idx55_inb : ∀ (v59 : IVec S16 32) (k0_hw31 : k0_chk31 v59), ∀ a x, ((![v59] : Fin 1 → IVec S16 32) a x).toNat < S128.size a := fun v59 k0_hw31 => k0_hw31.1
theorem k0_idx63_inb : ∀ (v59 : IVec S16 32) (k0_hw31 : k0_chk31 v59), ∀ a x, ((![v59] : Fin 1 → IVec S16 32) a x).toNat < S128.size a := fun v59 k0_hw31 => k0_hw31.2

def k0_chk32 (v61 : IVec S16 32) : Prop :=
  (∀ a x, ((![v61] : Fin 1 → IVec S16 32) a x).toNat < S128.size a) ∧
  (∀ a x, ((![v61] : Fin 1 → IVec S16 32) a x).toNat < S128.size a)
theorem k0_idx56_inb : ∀ (v61 : IVec S16 32) (k0_hw32 : k0_chk32 v61), ∀ a x, ((![v61] : Fin 1 → IVec S16 32) a x).toNat < S128.size a := fun v61 k0_hw32 => k0_hw32.1
theorem k0_idx64_inb : ∀ (v61 : IVec S16 32) (k0_hw32 : k0_chk32 v61), ∀ a x, ((![v61] : Fin 1 → IVec S16 32) a x).toNat < S128.size a := fun v61 k0_hw32 => k0_hw32.2
def k0_off50 (i : grid0.Coords) (c31_i32_32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v63 : BitVec 32 := Scalar.addi v2 c31_i32_32
  let c0_i32_33 : BitVec 32 := 0#32
  let c2048_i32_34 : BitVec 32 := 2048#32
  ![v63.toNat, 0, 2048]
def k0_off51 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c31_i32_41 : BitVec 32 := 31#32
  let v77 : BitVec 32 := Scalar.addi v2 c31_i32_41
  let c0_i32_42 : BitVec 32 := 0#32
  let c0_i32_43 : BitVec 32 := 0#32
  ![v77.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩
abbrev S4194304x8 : Shape := ⟨2, ![4194304, 8]⟩
abbrev S4194304x4 : Shape := ⟨2, ![4194304, 4]⟩
abbrev S_ : Shape := ⟨0, ![]⟩
abbrev S4194304 : Shape := ⟨1, ![4194304]⟩
abbrev S4194304x1 : Shape := ⟨2, ![4194304, 1]⟩
abbrev S4194304x4x1 : Shape := ⟨3, ![4194304, 4, 1]⟩
abbrev S4194304x4x2 : Shape := ⟨3, ![4194304, 4, 2]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4194304x8, .f32⟩
  | .hbm, ⟨3, _⟩ => ⟨S4194304x8, .i32⟩
  | .hbm, ⟨4, _⟩ => ⟨S4194304x8, .f32⟩
  | .hbm, ⟨5, _⟩ => ⟨S4194304x8, .i32⟩
  | .hbm, ⟨6, _⟩ => ⟨S4194304x4, .i32⟩
  | .hbm, ⟨7, _⟩ => ⟨S_, .f32⟩
  | .hbm, ⟨8, _⟩ => ⟨S4194304x8, .f32⟩
  | .hbm, ⟨9, _⟩ => ⟨S4194304, .i32⟩
  | .hbm, ⟨10, _⟩ => ⟨S4194304x1, .i32⟩
  | .hbm, ⟨11, _⟩ => ⟨S_, .i32⟩
  | .hbm, ⟨12, _⟩ => ⟨S4194304x1, .i32⟩
  | .hbm, ⟨13, _⟩ => ⟨S4194304x1, .i1⟩
  | .hbm, ⟨14, _⟩ => ⟨S_, .i32⟩
  | .hbm, ⟨15, _⟩ => ⟨S4194304x1, .i32⟩
  | .hbm, ⟨16, _⟩ => ⟨S4194304x1, .i32⟩
  | .hbm, ⟨17, _⟩ => ⟨S4194304x1, .i32⟩
  | .hbm, ⟨18, _⟩ => ⟨S_, .i32⟩
  | .hbm, ⟨19, _⟩ => ⟨S4194304x4, .i32⟩
  | .hbm, ⟨20, _⟩ => ⟨S4194304x4, .i1⟩
  | .hbm, ⟨21, _⟩ => ⟨S_, .i32⟩
  | .hbm, ⟨22, _⟩ => ⟨S4194304x4, .i32⟩
  | .hbm, ⟨23, _⟩ => ⟨S4194304x4, .i32⟩
  | .hbm, ⟨24, _⟩ => ⟨S4194304x4, .i32⟩
  | .hbm, ⟨25, _⟩ => ⟨S4194304x4, .i32⟩
  | .hbm, ⟨26, _⟩ => ⟨S4194304x4x1, .i32⟩
  | .hbm, ⟨27, _⟩ => ⟨S4194304x4x1, .i32⟩
  | .hbm, ⟨28, _⟩ => ⟨S4194304x4x2, .i32⟩
  | .hbm, ⟨29, _⟩ => ⟨S_, .f32⟩
  | .hbm, ⟨30, _⟩ => ⟨S4194304x4, .f32⟩
  | .hbm, ⟨31, _⟩ => ⟨S4194304x8, .f32⟩
  | .hbm, ⟨32, _⟩ => ⟨S8192x4096, .f32⟩
  | .hbm, ⟨33, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Panel.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Topk

open Cert.KernelIdeal Cert.KernelIdeal.Gen
open Idealize.ShloMosaic
open Idealize.SL.Sem

variable {F : FTy → Type} [FloatOps F]

/-! ## One group of eight scores -/

/-- The contribution of one pair of scores of a group to its packed ranks: the word `w` where the later
score `b` is below the earlier score `a`, else nothing. -/
def cmpTerm (a b : F .f32) (w : BitVec 32) : BitVec 32 :=
  if FloatOps.cmpf .olt b a = 1 then w else 0#32

/-- The packed ranks of a group of eight scores: four bits of a word for each score, holding how many of the
group sort before it. -/
def packed (s : Fin 8 → F .f32) : BitVec 32 :=
  1985229328#32 + ((((((cmpTerm (s 0) (s 1) 4294967281#32) + (cmpTerm (s 0) (s 2) 4294967041#32)) + ((cmpTerm (s 0) (s 3) 4294963201#32) + (cmpTerm (s 0) (s 4) 4294901761#32))) + (((cmpTerm (s 0) (s 5) 4293918721#32) + (cmpTerm (s 0) (s 6) 4278190081#32)) + ((cmpTerm (s 0) (s 7) 4026531841#32) + (cmpTerm (s 1) (s 2) 4294967056#32)))) + ((((cmpTerm (s 1) (s 3) 4294963216#32) + (cmpTerm (s 1) (s 4) 4294901776#32)) + ((cmpTerm (s 1) (s 5) 4293918736#32) + (cmpTerm (s 1) (s 6) 4278190096#32))) + (((cmpTerm (s 1) (s 7) 4026531856#32) + (cmpTerm (s 2) (s 3) 4294963456#32)) + ((cmpTerm (s 2) (s 4) 4294902016#32) + (cmpTerm (s 2) (s 5) 4293918976#32))))) + (((((cmpTerm (s 2) (s 6) 4278190336#32) + (cmpTerm (s 2) (s 7) 4026532096#32)) + ((cmpTerm (s 3) (s 4) 4294905856#32) + (cmpTerm (s 3) (s 5) 4293922816#32))) + (((cmpTerm (s 3) (s 6) 4278194176#32) + (cmpTerm (s 3) (s 7) 4026535936#32)) + ((cmpTerm (s 4) (s 5) 4293984256#32) + (cmpTerm (s 4) (s 6) 4278255616#32)))) + (((cmpTerm (s 4) (s 7) 4026597376#32) + (cmpTerm (s 5) (s 6) 4279238656#32)) + ((cmpTerm (s 5) (s 7) 4027580416#32) + (cmpTerm (s 6) (s 7) 4043309056#32)))))

/-- Whether the kernel drops member `k` of a group of scores: bit two of its rank is clear. -/
def dropBit (s : Fin 8 → F .f32) (k : Fin 8) : BitVec 1 :=
  BitVec.ofBool ((packed s &&& (![4#32, 64#32, 1024#32, 16384#32, 262144#32, 4194304#32, 67108864#32, 1073741824#32] : Fin 8 → BitVec 32) k) == 0#32)

/-- The mask of the lanes whose member `k` is dropped, from the eight gathered score vectors. -/
def dropVec (v0 v1 v2 v3 v4 v5 v6 v7 : Vec F S16 .f32) (k : Fin 8) : IVec S16 1 :=
  fun l => dropBit (fun j => (![v0, v1, v2, v3, v4, v5, v6, v7] : Fin 8 → Vec F S16 .f32) j l) k

/-! ## One panel of 128 columns -/

/-- A row of 128 consecutive columns of a staging buffer. -/
abbrev row (B : Memref sig .scVector .vmem S8x2048 .f32) (off : Fin 2 → Nat) (h : ∀ a, off a + S1x128.size a ≤ S8x2048.size a) :
    Memref sig .scVector .vmem S128 .f32 :=
  (B.slice (Rect.unit (s := S8x2048) off S1x128.size h) (fun _ => rfl)).squeeze S128 squeezes_S1x128_S128

/-- The kernel's work on one panel: eight gathers of scores, then eight masked stores of zeros. -/
def panel (i : grid0.Coords) (sb ob : Memref sig .scVector .vmem S8x2048 .f32) (off : Fin 2 → Nat)
    (hoff : ∀ a, off a + S1x128.size a ≤ S8x2048.size a) (ix : Fin 8 → IVec S16 32)
    (hix : ∀ k, ∀ a x, ((![ix k] : Fin 1 → IVec S16 32) a x).toNat < S128.size a) :
    Prog (TpuEff nD τ sig (Elt F) Λ₀ (.scVector ((i 0).castLE hcore0) ((i 1).castLE hsub0))) Unit := do
  let v0 ← SparseCore.vectorLoadIdx (row sb off hoff) ![ix 0] (hix 0) (View.loads_vmem h_S128)
  let v1 ← SparseCore.vectorLoadIdx (row sb off hoff) ![ix 1] (hix 1) (View.loads_vmem h_S128)
  let v2 ← SparseCore.vectorLoadIdx (row sb off hoff) ![ix 2] (hix 2) (View.loads_vmem h_S128)
  let v3 ← SparseCore.vectorLoadIdx (row sb off hoff) ![ix 3] (hix 3) (View.loads_vmem h_S128)
  let v4 ← SparseCore.vectorLoadIdx (row sb off hoff) ![ix 4] (hix 4) (View.loads_vmem h_S128)
  let v5 ← SparseCore.vectorLoadIdx (row sb off hoff) ![ix 5] (hix 5) (View.loads_vmem h_S128)
  let v6 ← SparseCore.vectorLoadIdx (row sb off hoff) ![ix 6] (hix 6) (View.loads_vmem h_S128)
  let v7 ← SparseCore.vectorLoadIdx (row sb off hoff) ![ix 7] (hix 7) (View.loads_vmem h_S128)
  SparseCore.vectorStoreIdx (row ob off hoff) ![ix 0] (fun _ => (Scalar.ofBits .f32 0x00000000#32 : F .f32)) (dropVec v0 v1 v2 v3 v4 v5 v6 v7 0) false (hix 0) (View.stores_vmem_bits_univ h_S128 rfl)
  SparseCore.vectorStoreIdx (row ob off hoff) ![ix 1] (fun _ => (Scalar.ofBits .f32 0x00000000#32 : F .f32)) (dropVec v0 v1 v2 v3 v4 v5 v6 v7 1) false (hix 1) (View.stores_vmem_bits_univ h_S128 rfl)
  SparseCore.vectorStoreIdx (row ob off hoff) ![ix 2] (fun _ => (Scalar.ofBits .f32 0x00000000#32 : F .f32)) (dropVec v0 v1 v2 v3 v4 v5 v6 v7 2) false (hix 2) (View.stores_vmem_bits_univ h_S128 rfl)
  SparseCore.vectorStoreIdx (row ob off hoff) ![ix 3] (fun _ => (Scalar.ofBits .f32 0x00000000#32 : F .f32)) (dropVec v0 v1 v2 v3 v4 v5 v6 v7 3) false (hix 3) (View.stores_vmem_bits_univ h_S128 rfl)
  SparseCore.vectorStoreIdx (row ob off hoff) ![ix 4] (fun _ => (Scalar.ofBits .f32 0x00000000#32 : F .f32)) (dropVec v0 v1 v2 v3 v4 v5 v6 v7 4) false (hix 4) (View.stores_vmem_bits_univ h_S128 rfl)
  SparseCore.vectorStoreIdx (row ob off hoff) ![ix 5] (fun _ => (Scalar.ofBits .f32 0x00000000#32 : F .f32)) (dropVec v0 v1 v2 v3 v4 v5 v6 v7 5) false (hix 5) (View.stores_vmem_bits_univ h_S128 rfl)
  SparseCore.vectorStoreIdx (row ob off hoff) ![ix 6] (fun _ => (Scalar.ofBits .f32 0x00000000#32 : F .f32)) (dropVec v0 v1 v2 v3 v4 v5 v6 v7 6) false (hix 6) (View.stores_vmem_bits_univ h_S128 rfl)
  SparseCore.vectorStoreIdx (row ob off hoff) ![ix 7] (fun _ => (Scalar.ofBits .f32 0x00000000#32 : F .f32)) (dropVec v0 v1 v2 v3 v4 v5 v6 v7 7) false (hix 7) (View.stores_vmem_bits_univ h_S128 rfl)

/-- The kernel's work on one chunk held in the staging buffers: its 128 panels, each 128 columns of a row. -/
def panelLoop (i : grid0.Coords) (sb ob : Memref sig .scVector .vmem S8x2048 .f32) (ix : Fin 8 → IVec S16 32)
    (hix : ∀ k, ∀ a x, ((![ix k] : Fin 1 → IVec S16 32) a x).toNat < S128.size a) :
    Prog (TpuEff nD τ sig (Elt F) Λ₀ (.scVector ((i 0).castLE hcore0) ((i 1).castLE hsub0))) Unit :=
  Scf.Loop.for k0_t2_loop k0_t2_ok PUnit.unit fun p _ => panel i sb ob (k0_off4 p) (k0_off4_inb p) ix hix

/-- A family of eight facts from its eight members. -/
theorem fin8 {P : Fin 8 → Prop} (h0 : P 0) (h1 : P 1) (h2 : P 2) (h3 : P 3) (h4 : P 4) (h5 : P 5) (h6 : P 6) (h7 : P 7) : ∀ k, P k := by
  intro k; fin_cases k <;> assumption

set_option maxHeartbeats 4000000 in
set_option maxRecDepth 65536 in
/-- Loop 2 of the kernel is the panel loop on its two staging buffers. -/
theorem t2_loop_eq (i : grid0.Coords) (arg2 : Memref sig .scVector .hbm S8192x4096 .f32) (harg2 : arg2.IsWhole) (arg3 : Memref sig .scVector .hbm S8192x4096 .f32) (harg3 : arg3.IsWhole) (arg4 : Memref sig .scVector .hbm S8192x4096 .f32) (harg4 : arg4.IsWhole) (arg5 : Memref sig .scVector .vmem S8x2048 .f32) (harg5 : arg5.IsWhole) (arg6 : Memref sig .scVector .vmem S8x2048 .f32) (harg6 : arg6.IsWhole) (arg7 : Memref sig .scVector .vmem S8x2048 .f32) (harg7 : arg7.IsWhole) (arg8 : Memref sig .scVector .vmem S8x2048 .f32) (harg8 : arg8.IsWhole) (arg9 : Memref sig .scVector .vmem S8x2048 .f32) (harg9 : arg9.IsWhole) (arg10 : Memref sig .scVector .vmem S8x2048 .f32) (harg10 : arg10.IsWhole) (arg11 arg12 arg13 arg14 arg15 arg16 arg17 arg18 arg19 : DmaSems sig S_) (v2 : BitVec 32) (t1 : Fin k0_t1_loop.trips) (arg20 v91 : BitVec 32) (w0 : IVec S16 32) (h0 : k0_chk1 w0) (w1 : IVec S16 32) (h1 : k0_chk2 w1) (w2 : IVec S16 32) (h2 : k0_chk3 w2) (w3 : IVec S16 32) (h3 : k0_chk4 w3) (w4 : IVec S16 32) (h4 : k0_chk5 w4) (w5 : IVec S16 32) (h5 : k0_chk6 w5) (w6 : IVec S16 32) (h6 : k0_chk7 w6) (w7 : IVec S16 32) (h7 : k0_chk8 w7) :
    Scf.Loop.for k0_t2_loop k0_t2_ok PUnit.unit (k0_t2_body (F := F) i arg2 harg2 arg3 harg3 arg4 harg4 arg5 harg5 arg6 harg6 arg7 harg7 arg8 harg8 arg9 harg9 arg10 harg10 arg11 arg12 arg13 arg14 arg15 arg16 arg17 arg18 arg19 v2 t1 arg20 v91 w0 h0 w1 h1 w2 h2 w3 h3 w4 h4 w5 h5 w6 h6 w7 h7)
      = panelLoop i arg5 arg8 ![w0, w1, w2, w3, w4, w5, w6, w7] (fin8 h0.1 h1.1 h2.1 h3.1 h4.1 h5.1 h6.1 h7.1) := by
  refine congrArg (Scf.Loop.for k0_t2_loop k0_t2_ok PUnit.unit) (funext fun p => funext fun u => ?_)
  unfold k0_t2_body panel
  rw [k0_part1_eq_skeleton, k0_part2_eq_skeleton, k0_part3_eq_skeleton, k0_part4_eq_skeleton, k0_part5_eq_skeleton]
  rfl

set_option maxHeartbeats 4000000 in
set_option maxRecDepth 65536 in
/-- Loop 3 of the kernel is the panel loop on its two staging buffers. -/
theorem t3_loop_eq (i : grid0.Coords) (arg2 : Memref sig .scVector .hbm S8192x4096 .f32) (harg2 : arg2.IsWhole) (arg3 : Memref sig .scVector .hbm S8192x4096 .f32) (harg3 : arg3.IsWhole) (arg4 : Memref sig .scVector .hbm S8192x4096 .f32) (harg4 : arg4.IsWhole) (arg5 : Memref sig .scVector .vmem S8x2048 .f32) (harg5 : arg5.IsWhole) (arg6 : Memref sig .scVector .vmem S8x2048 .f32) (harg6 : arg6.IsWhole) (arg7 : Memref sig .scVector .vmem S8x2048 .f32) (harg7 : arg7.IsWhole) (arg8 : Memref sig .scVector .vmem S8x2048 .f32) (harg8 : arg8.IsWhole) (arg9 : Memref sig .scVector .vmem S8x2048 .f32) (harg9 : arg9.IsWhole) (arg10 : Memref sig .scVector .vmem S8x2048 .f32) (harg10 : arg10.IsWhole) (arg11 arg12 arg13 arg14 arg15 arg16 arg17 arg18 arg19 : DmaSems sig S_) (v2 : BitVec 32) (v5 : IVec S16 32) (t1 : Fin k0_t1_loop.trips) (v140 c0 : BitVec 32) (w0 : IVec S16 32) (h0 : k0_chk9 w0) (w1 : IVec S16 32) (h1 : k0_chk10 w1) (w2 : IVec S16 32) (h2 : k0_chk11 w2) (w3 : IVec S16 32) (h3 : k0_chk12 w3) (w4 : IVec S16 32) (h4 : k0_chk13 w4) (w5 : IVec S16 32) (h5 : k0_chk14 w5) (w6 : IVec S16 32) (h6 : k0_chk15 w6) (w7 : IVec S16 32) (h7 : k0_chk16 w7) :
    Scf.Loop.for k0_t3_loop k0_t3_ok PUnit.unit (k0_t3_body (F := F) i arg2 harg2 arg3 harg3 arg4 harg4 arg5 harg5 arg6 harg6 arg7 harg7 arg8 harg8 arg9 harg9 arg10 harg10 arg11 arg12 arg13 arg14 arg15 arg16 arg17 arg18 arg19 v2 v5 t1 v140 c0 w0 h0 w1 h1 w2 h2 w3 h3 w4 h4 w5 h5 w6 h6 w7 h7)
      = panelLoop i arg6 arg9 ![w0, w1, w2, w3, w4, w5, w6, w7] (fin8 h0.1 h1.1 h2.1 h3.1 h4.1 h5.1 h6.1 h7.1) := by
  refine congrArg (Scf.Loop.for k0_t2_loop k0_t2_ok PUnit.unit) (funext fun p => funext fun u => ?_)
  unfold k0_t3_body panel
  rw [k0_part6_eq_skeleton, k0_part7_eq_skeleton, k0_part8_eq_skeleton, k0_part9_eq_skeleton, k0_part10_eq_skeleton]
  rfl

set_option maxHeartbeats 4000000 in
set_option maxRecDepth 65536 in
/-- Loop 4 of the kernel is the panel loop on its two staging buffers. -/
theorem t4_loop_eq (i : grid0.Coords) (arg2 : Memref sig .scVector .hbm S8192x4096 .f32) (harg2 : arg2.IsWhole) (arg3 : Memref sig .scVector .hbm S8192x4096 .f32) (harg3 : arg3.IsWhole) (arg4 : Memref sig .scVector .hbm S8192x4096 .f32) (harg4 : arg4.IsWhole) (arg5 : Memref sig .scVector .vmem S8x2048 .f32) (harg5 : arg5.IsWhole) (arg6 : Memref sig .scVector .vmem S8x2048 .f32) (harg6 : arg6.IsWhole) (arg7 : Memref sig .scVector .vmem S8x2048 .f32) (harg7 : arg7.IsWhole) (arg8 : Memref sig .scVector .vmem S8x2048 .f32) (harg8 : arg8.IsWhole) (arg9 : Memref sig .scVector .vmem S8x2048 .f32) (harg9 : arg9.IsWhole) (arg10 : Memref sig .scVector .vmem S8x2048 .f32) (harg10 : arg10.IsWhole) (arg11 arg12 arg13 arg14 arg15 arg16 arg17 arg18 arg19 : DmaSems sig S_) (v2 : BitVec 32) (v5 : IVec S16 32) (c0 : BitVec 32) (w0 : IVec S16 32) (h0 : k0_chk17 w0) (w1 : IVec S16 32) (h1 : k0_chk18 w1) (w2 : IVec S16 32) (h2 : k0_chk19 w2) (w3 : IVec S16 32) (h3 : k0_chk20 w3) (w4 : IVec S16 32) (h4 : k0_chk21 w4) (w5 : IVec S16 32) (h5 : k0_chk22 w5) (w6 : IVec S16 32) (h6 : k0_chk23 w6) (w7 : IVec S16 32) (h7 : k0_chk24 w7) :
    Scf.Loop.for k0_t4_loop k0_t4_ok PUnit.unit (k0_t4_body (F := F) i arg2 harg2 arg3 harg3 arg4 harg4 arg5 harg5 arg6 harg6 arg7 harg7 arg8 harg8 arg9 harg9 arg10 harg10 arg11 arg12 arg13 arg14 arg15 arg16 arg17 arg18 arg19 v2 v5 c0 w0 h0 w1 h1 w2 h2 w3 h3 w4 h4 w5 h5 w6 h6 w7 h7)
      = panelLoop i arg7 arg10 ![w0, w1, w2, w3, w4, w5, w6, w7] (fin8 h0.1 h1.1 h2.1 h3.1 h4.1 h5.1 h6.1 h7.1) := by
  refine congrArg (Scf.Loop.for k0_t2_loop k0_t2_ok PUnit.unit) (funext fun p => funext fun u => ?_)
  unfold k0_t4_body panel
  rw [k0_part11_eq_skeleton, k0_part12_eq_skeleton, k0_part13_eq_skeleton, k0_part14_eq_skeleton, k0_part15_eq_skeleton]
  rfl

set_option maxHeartbeats 4000000 in
set_option maxRecDepth 65536 in
/-- Loop 5 of the kernel is the panel loop on its two staging buffers. -/
theorem t5_loop_eq (i : grid0.Coords) (arg2 : Memref sig .scVector .hbm S8192x4096 .f32) (harg2 : arg2.IsWhole) (arg3 : Memref sig .scVector .hbm S8192x4096 .f32) (harg3 : arg3.IsWhole) (arg4 : Memref sig .scVector .hbm S8192x4096 .f32) (harg4 : arg4.IsWhole) (arg5 : Memref sig .scVector .vmem S8x2048 .f32) (harg5 : arg5.IsWhole) (arg6 : Memref sig .scVector .vmem S8x2048 .f32) (harg6 : arg6.IsWhole) (arg7 : Memref sig .scVector .vmem S8x2048 .f32) (harg7 : arg7.IsWhole) (arg8 : Memref sig .scVector .vmem S8x2048 .f32) (harg8 : arg8.IsWhole) (arg9 : Memref sig .scVector .vmem S8x2048 .f32) (harg9 : arg9.IsWhole) (arg10 : Memref sig .scVector .vmem S8x2048 .f32) (harg10 : arg10.IsWhole) (arg11 arg12 arg13 arg14 arg15 arg16 arg17 arg18 arg19 : DmaSems sig S_)  (w0 : IVec S16 32) (h0 : k0_chk25 w0) (w1 : IVec S16 32) (h1 : k0_chk26 w1) (w2 : IVec S16 32) (h2 : k0_chk27 w2) (w3 : IVec S16 32) (h3 : k0_chk28 w3) (w4 : IVec S16 32) (h4 : k0_chk29 w4) (w5 : IVec S16 32) (h5 : k0_chk30 w5) (w6 : IVec S16 32) (h6 : k0_chk31 w6) (w7 : IVec S16 32) (h7 : k0_chk32 w7) :
    Scf.Loop.for k0_t5_loop k0_t5_ok PUnit.unit (k0_t5_body (F := F) i arg2 harg2 arg3 harg3 arg4 harg4 arg5 harg5 arg6 harg6 arg7 harg7 arg8 harg8 arg9 harg9 arg10 harg10 arg11 arg12 arg13 arg14 arg15 arg16 arg17 arg18 arg19  w0 h0 w1 h1 w2 h2 w3 h3 w4 h4 w5 h5 w6 h6 w7 h7)
      = panelLoop i arg5 arg8 ![w0, w1, w2, w3, w4, w5, w6, w7] (fin8 h0.1 h1.1 h2.1 h3.1 h4.1 h5.1 h6.1 h7.1) := by
  refine congrArg (Scf.Loop.for k0_t2_loop k0_t2_ok PUnit.unit) (funext fun p => funext fun u => ?_)
  unfold k0_t5_body panel
  rw [k0_part20_eq_skeleton, k0_part21_eq_skeleton, k0_part22_eq_skeleton, k0_part23_eq_skeleton, k0_part24_eq_skeleton]
  rfl

end Cert.Proof.Topk

end
-- ==== Proof.Setup.lean ====
module

public import proofs.«01_k».proof.Proof.Panel

@[expose] public section

noncomputable section

namespace Cert.Proof.Topk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the whole program. -/
abbrev ΛP : Labels := Pipeline.Sig Λ₀ (Fin 0) fun p => (pcfgs (F := F) p).Adm
/-- The SparseCore call's configuration. -/
abbrev K : SparseCore.Cfg τ sig (ΛP (F := F)) 1 := sc (F := F)
theorem nSub_zero : (K (F := F)).nSub 0 = 16 := rfl
theorem nCore_zero : (K (F := F)).nCore 0 = 2 := rfl
/-- The program's definitions. -/
abbrev D [FloatOps F] : Defs nD τ sig (Elt F) (ΛP (F := F)) := Pipeline.defs pcfgs defs₀
/-- The tile programs recur by nothing. -/
abbrev 𝒱₀ : Variants := Variants.none
/-- The variants of the whole program. -/
abbrev 𝒱 : Variants := 𝒱₀.lift
/-- Where the program's variants start. -/
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The ghost state of the proof: the handshakes' rounds and the local transfers' counters. -/
abbrev UU : Type := UH × Counters

local notation "𝕄" => MT nD τ sig (HIx 1) (Elt F) ℕ UU ℕ

/-- Where the handshakes' rounds sit in the ghost state. -/
abbrev EH : Emb UH (MT nD τ sig (HIx 1) (Elt F) ℕ UU ℕ) := embL

/-- The array `x`. -/
abbrev xLoc (d : Dev nD) : Loc nD τ sig := (SparseCore.T d).loc main_arg0
/-- The array of scores. -/
abbrev sLoc (d : Dev nD) : Loc nD τ sig := (SparseCore.T d).loc main_arg1
/-- The result array. -/
abbrev oLoc (d : Dev nD) : Loc nD τ sig := (SparseCore.T d).loc main_v0

/-- A task's SparseCore. -/
abbrev cV (L : grid0.Coords) : Fin τ.nSC := (L 0).castLE hcore0
/-- A task's tile. -/
abbrev jV (L : grid0.Coords) : Fin τ.nSub := (L 1).castLE hsub0
/-- The thread of a task. -/
abbrev thr (d : Dev nD) (L : grid0.Coords) : Thread nD τ := V d (cV L) (jV L)

end Cert.Proof.Topk

end
-- ==== Proof.PanelRun.lean ====
module

public import proofs.«01_k».proof.Proof.Setup

@[expose] public section

noncomputable section

namespace Cert.Proof.Topk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A staging buffer by the values it holds -/

/-- A staging buffer of a task, held outright with the given values. -/
def Holds (d : Dev nD) (L : grid0.Coords) (B : Memref sig .scVector .vmem S8x2048 .f32) (X : S8x2048.Idx → Elt F .f32) : sProp 𝕄 :=
  iprop(∃ f, ⌜B.view.read (Elt F) f = X⌝ ∗ (B.view.loc (thr d L) ↦[B.view.set]{fullShare} f))

/-- The position in a staging buffer of a position of one of its rows of 128 columns. -/
def rowAt (off : Fin 2 → Nat) (h : ∀ a, off a + S1x128.size a ≤ S8x2048.size a) (y : S128.Idx) : S8x2048.Idx :=
  fun a => match a with
    | 0 => ⟨off 0, lt_of_lt_of_le (Nat.lt_succ_self _) (h 0)⟩
    | 1 => ⟨off 1 + (y 0).val, lt_of_lt_of_le (Nat.add_lt_add_left (y 0).isLt _) (h 1)⟩

theorem reshape_row (h : S128.numel = S1x128.numel) (y : S128.Idx) (a : Fin 2) :
    (Shape.reshapeEquiv h y a).val = (![0, (y 0).val] : Fin 2 → Nat) a := by
  have e : Shape.reshapeEquiv h y = (fun a => match a with | 0 => ⟨0, Nat.one_pos⟩ | 1 => y 0 : S1x128.Idx) :=
    Shape.reshapeEquiv_eq_of_rowMajor h (by
      rw [Shape.rowMajor_val_two, Shape.rowMajor_val_one]
      show 0 * 128 + (y 0).val = (y 0).val
      omega)
  rw [e]
  match a with
  | 0 => rfl
  | 1 => rfl

variable {B : Memref sig .scVector .vmem S8x2048 .f32} {off : Fin 2 → Nat} {h : ∀ a, off a + S1x128.size a ≤ S8x2048.size a}

theorem rect_row (hn : S128.numel = S1x128.numel) (y : S128.Idx) :
    (Rect.unit (s := S8x2048) off S1x128.size h).emb (Shape.reshapeEquiv hn y) = rowAt off h y := by
  funext a
  apply Fin.ext
  show off a + 1 * (Shape.reshapeEquiv hn y a).val = _
  rw [reshape_row]
  match a with
  | 0 => rfl
  | 1 => show off 1 + 1 * (y 0).val = off 1 + (y 0).val; omega

theorem row_emb (y : S128.Idx) : ((row B off h).access (.whole S128)).emb y = B.view.emb (rowAt off h y) :=
  (congrArg (row B off h).view.emb (Rect.emb_whole_apply S128 y)).trans (congrArg B.view.emb (rect_row _ y))

theorem row_subset : ((row B off h).access (.whole S128)).set ⊆ B.view.set := by
  intro z hz
  obtain ⟨y, -, rfl⟩ := Finset.mem_map.1 hz
  rw [row_emb]
  exact Finset.mem_map_of_mem _ (Finset.mem_univ _)

theorem row_read (f : B.view.ty.Contents (Elt F)) (y : S128.Idx) :
    ((row B off h).access (.whole S128)).read (Elt F) f y = B.view.read (Elt F) f (rowAt off h y) := by
  show cast _ (f (((row B off h).access (.whole S128)).emb y)) = _
  rw [row_emb]
  rfl

theorem rowAt_inj : Function.Injective (rowAt off h) := by
  intro y y' e
  have := congrArg (fun z : S8x2048.Idx => (z 1).val) e
  funext a
  obtain rfl : a = 0 := Fin.eq_zero a
  apply Fin.ext
  have h1 : off 1 + (y 0).val = off 1 + (y' 0).val := this
  omega

open Classical in
/-- The values of a staging buffer after zeros (or any one value `z`) are stored at the masked lanes of one of its rows. -/
def stored (X : S8x2048.Idx → Elt F .f32) (off : Fin 2 → Nat) (h : ∀ a, off a + S1x128.size a ≤ S8x2048.size a)
    (ix : IVec S16 32) (hix : ∀ a x, ((![ix] : Fin 1 → IVec S16 32) a x).toNat < S128.size a) (z : Elt F .f32) (M : IVec S16 1) :
    S8x2048.Idx → Elt F .f32 :=
  fun j => if ∃ l, M l = 1 ∧ j = rowAt off h (idxAt ![ix] hix l) then z else X j

/-- A masked store of one value: the positions the set lanes name get the value, the others keep theirs. -/
theorem storeIdx_const {n : Fin 1 → Nat} (f : Vec F S128 .f32) (ix : Fin 1 → IVec ⟨1, n⟩ 32) (hix : ∀ a x, (ix a x).toNat < S128.size a)
    (z : Elt F .f32) (M : IVec ⟨1, n⟩ 1) (y : S128.Idx) :
    ((∃ l, M l = 1 ∧ y = idxAt ix hix l) → storeIdx f ix (fun _ => z) M false hix y = z)
      ∧ ((¬ ∃ l, M l = 1 ∧ y = idxAt ix hix l) → storeIdx f ix (fun _ => z) M false hix y = f y) := by
  have key : ∀ (ks : List (Fin (n 0))) (g : Vec F S128 .f32),
      ((∃ k ∈ ks, M (Shape.ofLane k) = 1 ∧ y = idxAt ix hix (Shape.ofLane k)) ∨ g y = z →
        ks.foldl (fun g k =>
          if M (Shape.ofLane k) = 1 then
            fun j => if (∀ a, (j a).val = (idxAt ix hix (Shape.ofLane k) a).val) then z else g j
          else g) g y = z)
      ∧ ((¬ ∃ k ∈ ks, M (Shape.ofLane k) = 1 ∧ y = idxAt ix hix (Shape.ofLane k)) →
        ks.foldl (fun g k =>
          if M (Shape.ofLane k) = 1 then
            fun j => if (∀ a, (j a).val = (idxAt ix hix (Shape.ofLane k) a).val) then z else g j
          else g) g y = g y) := by
    intro ks
    induction ks with
    | nil =>
      intro g
      refine ⟨fun hh => ?_, fun _ => rfl⟩
      rcases hh with ⟨k, hk, -⟩ | hh
      · exact absurd hk (List.not_mem_nil)
      · exact hh
    | cons k ks ih =>
      intro g
      rw [List.foldl_cons]
      constructor
      · intro hh
        apply (ih _).1
        rcases hh with ⟨k', hk', hm, hy⟩ | hh
        · rcases List.mem_cons.1 hk' with rfl | hk'
          · right
            rw [if_pos hm]
            exact if_pos fun a => by rw [hy]
          · exact Or.inl ⟨k', hk', hm, hy⟩
        · right
          split
          · show (if _ then z else g y) = z
            split
            · rfl
            · exact hh
          · exact hh
      · intro hh
        rw [(ih _).2 fun ⟨k', hk', hm⟩ => hh ⟨k', List.mem_cons_of_mem _ hk', hm⟩]
        split
        · rename_i hm
          show (if _ then z else g y) = g y
          rw [if_neg]
          intro hy
          exact hh ⟨k, List.mem_cons_self, hm, funext fun a => Fin.ext (hy a)⟩
        · rfl
  have lane : ∀ l : (⟨1, n⟩ : Shape).Idx, Shape.ofLane (d := n) (l 0) = l := fun l => funext fun a => by
    obtain rfl : a = 0 := Fin.eq_zero a
    rfl
  constructor
  · rintro ⟨l, hm, hy⟩
    unfold storeIdx
    simp only [Bool.false_eq_true, ↓reduceIte]
    exact (key (List.finRange (n 0)) f).1 (Or.inl ⟨l 0, List.mem_finRange _, by rw [lane l]; exact hm, by rw [lane l]; exact hy⟩)
  · intro hh
    unfold storeIdx
    simp only [Bool.false_eq_true, ↓reduceIte]
    exact (key (List.finRange (n 0)) f).2 fun ⟨k, _, hm, hy⟩ => hh ⟨_, hm, hy⟩

/-- Reading a staging buffer after a masked store of one value through one of its rows. -/
theorem read_stored (f : B.view.ty.Contents (Elt F)) (ix : IVec S16 32) (hix : ∀ a x, ((![ix] : Fin 1 → IVec S16 32) a x).toNat < S128.size a)
    (z : Elt F .f32) (M : IVec S16 1) :
    B.view.read (Elt F) (((row B off h).access (.whole S128)).write (Elt F) f
        (storeIdx (((row B off h).access (.whole S128)).read (Elt F) f) ![ix] (fun _ => z) M false hix) Finset.univ)
      = stored (B.view.read (Elt F) f) off h ix hix z M := by
  funext j
  unfold stored
  by_cases hj : ∃ y, j = rowAt off h y
  · obtain ⟨y, rfl⟩ := hj
    rw [← row_read, View.read_write_univ]
    split
    · rename_i hh
      obtain ⟨l, hm, hy⟩ := hh
      exact (storeIdx_const _ _ hix z M y).1 ⟨l, hm, rowAt_inj hy⟩
    · rename_i hh
      rw [(storeIdx_const _ _ hix z M y).2 fun ⟨l, hm, hy⟩ => hh ⟨l, hm, by rw [hy]⟩, row_read]
  · rw [if_neg fun ⟨l, _, hl⟩ => hj ⟨_, hl⟩]
    rw [View.read_apply, View.read_apply, View.write_of_not_mem]
    intro hm
    obtain ⟨y, -, hy⟩ := Finset.mem_map.1 hm
    rw [row_emb] at hy
    exact hj ⟨y, (B.view.emb.injective hy).symm⟩

variable (d : Dev nD) (L : grid0.Coords)

/-- A gather from a row of a staging buffer held with the values `X` reads `X` at the row's positions the lanes name. -/
theorem wp_rowLoad {X : S8x2048.Idx → Elt F .f32} {ix : IVec S16 32} {hix : ∀ a x, ((![ix] : Fin 1 → IVec S16 32) a x).toNat < S128.size a}
    {hl : (row B off h).view.Loads} {α : Type} {k : Vec F S16 .f32 → Prog (TpuEff nD τ sig (Elt F) Λ₀ (thr d L).2) α} {Q : α → sProp 𝕄} :
    Holds d L B X ⊢ iprop((Holds d L B X -∗ wp frame (wpE (defs₀ (F := F)) 𝒱₀ (thr d L) none) Set.univ (k (fun l => X (rowAt off h (idxAt ![ix] hix l)))) Q)
      -∗ wp frame (wpE (defs₀ (F := F)) 𝒱₀ (thr d L) none) Set.univ (SparseCore.vectorLoadIdx (row B off h) ![ix] hix hl >>= k) Q) := by
  unfold Holds
  iintro ⟨%f, %hf, H⟩ Hk
  iapply (SparseCore.wp_vectorLoadIdx 𝒱₀ (thr d L) none Set.univ (base := row B off h) (S := B.view.set) (q := fullShare) row_subset) $$ H
  iintro H
  rw [show loadIdx (((row B off h).access (.whole S128)).read (Elt F) f) ![ix] hix = fun l => X (rowAt off h (idxAt ![ix] hix l)) from
    funext fun l => by rw [← hf]; exact row_read f _]
  iapply Hk
  iexists f
  isplitr
  · ipureintro; exact hf
  · iexact H

/-- A masked scatter of one value into a row of a staging buffer. -/
theorem wp_rowStore {X : S8x2048.Idx → Elt F .f32} {ix : IVec S16 32} {hix : ∀ a x, ((![ix] : Fin 1 → IVec S16 32) a x).toNat < S128.size a}
    {z : Elt F .f32} {M : IVec S16 1} {hs : ((row B off h).access (.whole S128)).Stores Finset.univ}
    {α : Type} {k : PUnit → Prog (TpuEff nD τ sig (Elt F) Λ₀ (thr d L).2) α} {Q : α → sProp 𝕄} :
    Holds d L B X ⊢ iprop((Holds d L B (stored X off h ix hix z M) -∗ wp frame (wpE (defs₀ (F := F)) 𝒱₀ (thr d L) none) Set.univ (k ⟨⟩) Q)
      -∗ wp frame (wpE (defs₀ (F := F)) 𝒱₀ (thr d L) none) Set.univ
          (SparseCore.vectorStoreIdx (row B off h) ![ix] (fun _ => z) M false hix hs >>= k) Q) := by
  unfold Holds
  iintro ⟨%f, %hf, H⟩ Hk
  ihave H' := (pointsTo_split_subset (row_subset (B := B) (off := off) (h := h))).1 $$ H
  icases H' with ⟨H, Hr⟩
  iapply (SparseCore.wp_vectorStoreIdx 𝒱₀ (thr d L) none Set.univ (base := row B off h)) $$ H
  iintro H
  iapply Hk
  iexists _
  isplitr
  rotate_left
  · iapply (pointsTo_split_subset (row_subset (B := B) (off := off) (h := h))).2
    isplitl [H]
    · iexact H
    · iapply (Entails.of_eq (pointsTo_congr fun i hi => ?_)) $$ Hr
      symm
      exact View.write_of_not_mem _ _ _ (Finset.mem_sdiff.1 hi).2
  · ipureintro
    rw [← hf]
    exact read_stored f ix hix z M

end Cert.Proof.Topk

end
-- ==== Proof.PanelLoop.lean ====
module

public import proofs.«01_k».proof.Proof.PanelRun

@[expose] public section

noncomputable section

namespace Cert.Proof.Topk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## One chunk's 128 panels -/

/-- The value stored at dropped positions. -/
abbrev zeroF : Elt F .f32 := (Scalar.ofBits .f32 0x00000000#32 : F .f32)

/-- The eight scores of a staging buffer among which position `j`'s is ranked. -/
def grp (X : S8x2048.Idx → Elt F .f32) (j : S8x2048.Idx) : Fin 8 → F .f32 :=
  fun k => X fun a => match a with
    | 0 => j 0
    | 1 => ⟨8 * ((j 1).val / 8) + k.val, by have h : (j 1).val < 2048 := (j 1).isLt; show _ < 2048; omega⟩

/-- A position's place among the eight columns of its group. -/
def place (j : S8x2048.Idx) : Fin 8 := ⟨(j 1).val % 8, Nat.mod_lt _ (by decide)⟩

/-- The staging buffer after the first `p` panels: in those, zero at the dropped positions. -/
def masked (Sc X : S8x2048.Idx → Elt F .f32) (p : Nat) : S8x2048.Idx → Elt F .f32 :=
  fun j => if 16 * (j 0).val + (j 1).val / 128 < p ∧ dropBit (grp Sc j) (place j) = 1 then zeroF else X j

variable {off : Fin 2 → Nat} {h : ∀ a, off a + S1x128.size a ≤ S8x2048.size a}
variable {ix : Fin 8 → IVec S16 32} {hix : ∀ k, ∀ a x, ((![ix k] : Fin 1 → IVec S16 32) a x).toNat < S128.size a}

/-- The position in the buffer that lane `l`'s index for member `k` names. -/
theorem rowAt_ix {p : Nat} (hp : p < 128) (ho : off = ![p / 16, p % 16 * 128]) (hv : ∀ k l, (ix k l).toNat = 8 * (l 0).val + k.val)
    (k : Fin 8) (l : S16.Idx) :
    (rowAt off h (idxAt ![ix k] (hix k) l) 0).val = p / 16 ∧ (rowAt off h (idxAt ![ix k] (hix k) l) 1).val = p % 16 * 128 + (8 * (l 0).val + k.val) := by
  subst ho
  refine ⟨rfl, ?_⟩
  show p % 16 * 128 + (ix k l).toNat = _
  rw [hv]

/-- The dropped positions of one panel, by lanes and by positions. -/
theorem dropped_iff {p : Nat} (hp : p < 128) (ho : off = ![p / 16, p % 16 * 128]) (hv : ∀ k l, (ix k l).toNat = 8 * (l 0).val + k.val)
    (Sc : S8x2048.Idx → Elt F .f32) (k : Fin 8) (j : S8x2048.Idx) :
    (∃ l, dropBit (fun m => Sc (rowAt off h (idxAt ![ix m] (hix m) l))) k = 1 ∧ j = rowAt off h (idxAt ![ix k] (hix k) l))
      ↔ 16 * (j 0).val + (j 1).val / 128 = p ∧ place j = k ∧ dropBit (grp Sc j) (place j) = 1 := by
  have hj1 : (j 1).val < 2048 := (j 1).isLt
  have hj0 : (j 0).val < 8 := (j 0).isLt
  have hg : ∀ l : S16.Idx, (j 0).val = p / 16 → 8 * ((j 1).val / 8) = p % 16 * 128 + 8 * (l 0).val →
      (fun m => Sc (rowAt off h (idxAt ![ix m] (hix m) l))) = grp Sc j := by
    intro l h0 h1
    funext m
    unfold grp
    congr 1
    have hr := rowAt_ix (h := h) (hix := hix) hp ho hv m l
    funext a
    apply Fin.ext
    match a with
    | 0 => exact hr.1.trans h0.symm
    | 1 => rw [hr.2]; show _ = 8 * ((j 1).val / 8) + m.val; omega
  constructor
  · rintro ⟨l, hd, hl⟩
    have hr := rowAt_ix (h := h) (hix := hix) hp ho hv k l
    rw [← hl] at hr
    have hk : k.val < 8 := k.isLt
    have hll : (l 0).val < 16 := (l 0).isLt
    have hpl : place j = k := Fin.ext (by show (j 1).val % 8 = k.val; omega)
    refine ⟨by omega, hpl, ?_⟩
    rw [hpl, ← hg l hr.1 (by omega)]
    exact hd
  · rintro ⟨hp', hpl, hd⟩
    have hk : (j 1).val % 8 = k.val := congrArg Fin.val hpl
    have hlt : (j 1).val % 128 / 8 < 16 := by omega
    let l : S16.Idx := fun a => ⟨(j 1).val % 128 / 8, by obtain rfl : a = 0 := Fin.eq_zero a; exact hlt⟩
    have hl : (l 0).val = (j 1).val % 128 / 8 := rfl
    have hr := rowAt_ix (h := h) (hix := hix) hp ho hv k l
    refine ⟨l, ?_, ?_⟩
    · rw [hg l (by omega) (by omega), ← hpl]
      exact hd
    · funext a
      apply Fin.ext
      match a with
      | 0 => rw [hr.1]; show (j 0).val = _; omega
      | 1 => rw [hr.2, hl]; show (j 1).val = _; omega

/-- The eight gathered score vectors of a panel. -/
abbrev gat (Sc : S8x2048.Idx → Elt F .f32) (off : Fin 2 → Nat) (h : ∀ a, off a + S1x128.size a ≤ S8x2048.size a) (ix : Fin 8 → IVec S16 32)
    (hix : ∀ k, ∀ a x, ((![ix k] : Fin 1 → IVec S16 32) a x).toNat < S128.size a) (k : Fin 8) : Vec F S16 .f32 :=
  fun l => Sc (rowAt off h (idxAt ![ix k] (hix k) l))

theorem dropVec_gat (Sc : S8x2048.Idx → Elt F .f32) (k : Fin 8) (l : S16.Idx) :
    dropVec (gat Sc off h ix hix 0) (gat Sc off h ix hix 1) (gat Sc off h ix hix 2) (gat Sc off h ix hix 3) (gat Sc off h ix hix 4)
        (gat Sc off h ix hix 5) (gat Sc off h ix hix 6) (gat Sc off h ix hix 7) k l
      = dropBit (fun m => Sc (rowAt off h (idxAt ![ix m] (hix m) l))) k := by
  unfold dropVec
  congr 1
  exact funext (fin8 rfl rfl rfl rfl rfl rfl rfl rfl)

/-- Eight tests, one for each place of a group, are one test. -/
theorem eight_ifs {α : Type} {P Q R D : Prop} [Decidable P] [Decidable Q] [Decidable R] [Decidable D] {c : Fin 8} (hR : R ↔ P ∨ Q) (z x : α) :
    (if P ∧ c = 7 ∧ D then z else (if P ∧ c = 6 ∧ D then z else (if P ∧ c = 5 ∧ D then z else (if P ∧ c = 4 ∧ D then z else (if P ∧ c = 3 ∧ D then z else (if P ∧ c = 2 ∧ D then z else (if P ∧ c = 1 ∧ D then z else (if P ∧ c = 0 ∧ D then z else (if Q ∧ D then z else x))))))))) = if R ∧ D then z else x := by
  by_cases hD : D
  · by_cases hP : P
    · fin_cases c <;> simp [hD, hP, hR]
    · simp [hD, hP, hR]
  · simp [hD]

/-- The eight stores of a panel, read together. -/
theorem stored_panel {p : Nat} (hp : p < 128) (ho : off = ![p / 16, p % 16 * 128]) (hv : ∀ k l, (ix k l).toNat = 8 * (l 0).val + k.val)
    (Sc X : S8x2048.Idx → Elt F .f32) (M : Fin 8 → IVec S16 1) (hM : ∀ k l, M k l = dropBit (fun m => Sc (rowAt off h (idxAt ![ix m] (hix m) l))) k) :
    stored (stored (stored (stored (stored (stored (stored (stored (masked Sc X p) off h (ix 0) (hix 0) zeroF (M 0)) off h (ix 1) (hix 1) zeroF (M 1))
        off h (ix 2) (hix 2) zeroF (M 2)) off h (ix 3) (hix 3) zeroF (M 3)) off h (ix 4) (hix 4) zeroF (M 4)) off h (ix 5) (hix 5) zeroF (M 5))
        off h (ix 6) (hix 6) zeroF (M 6)) off h (ix 7) (hix 7) zeroF (M 7) = masked Sc X (p + 1) := by
  funext j
  have hd := fun k => dropped_iff (h := h) (hix := hix) hp ho hv Sc k j
  have hs : ∀ (Y : S8x2048.Idx → Elt F .f32) (k : Fin 8), stored Y off h (ix k) (hix k) zeroF (M k) j
      = if 16 * (j 0).val + (j 1).val / 128 = p ∧ place j = k ∧ dropBit (grp Sc j) (place j) = 1 then zeroF else Y j := by
    intro Y k
    unfold stored
    refine if_congr ?_ rfl rfl
    rw [← hd k]
    refine exists_congr fun l => ?_
    rw [hM]
  rw [hs _ 7, hs _ 6, hs _ 5, hs _ 4, hs _ 3, hs _ 2, hs _ 1, hs _ 0]
  unfold masked
  exact eight_ifs (by omega) zeroF (X j)

variable (d : Dev nD) (L : grid0.Coords)

/-- One panel: from the scores and the chunk with `p` panels done, to `p + 1` panels done. -/
theorem wp_panel {sb ob : Memref sig .scVector .vmem S8x2048 .f32} {p : Nat} (hp : p < 128) (ho : off = ![p / 16, p % 16 * 128])
    (hv : ∀ k l, (ix k l).toNat = 8 * (l 0).val + k.val) (Sc X : S8x2048.Idx → Elt F .f32) :
    iprop(Holds d L sb Sc ∗ Holds d L ob (masked Sc X p))
      ⊢ wp frame (wpE (defs₀ (F := F)) 𝒱₀ (thr d L) none) Set.univ (panel (F := F) L sb ob off h ix hix)
          fun _ => iprop(Holds d L sb Sc ∗ Holds d L ob (masked Sc X (p + 1))) := by
  unfold panel
  iintro ⟨Hs, Ho⟩
  iapply (wp_rowLoad d L (B := sb) (X := Sc)) $$ Hs
  iintro Hs
  iapply (wp_rowLoad d L (B := sb) (X := Sc)) $$ Hs
  iintro Hs
  iapply (wp_rowLoad d L (B := sb) (X := Sc)) $$ Hs
  iintro Hs
  iapply (wp_rowLoad d L (B := sb) (X := Sc)) $$ Hs
  iintro Hs
  iapply (wp_rowLoad d L (B := sb) (X := Sc)) $$ Hs
  iintro Hs
  iapply (wp_rowLoad d L (B := sb) (X := Sc)) $$ Hs
  iintro Hs
  iapply (wp_rowLoad d L (B := sb) (X := Sc)) $$ Hs
  iintro Hs
  iapply (wp_rowLoad d L (B := sb) (X := Sc)) $$ Hs
  iintro Hs
  iapply (wp_rowStore d L (B := ob)) $$ Ho
  iintro Ho
  iapply (wp_rowStore d L (B := ob)) $$ Ho
  iintro Ho
  iapply (wp_rowStore d L (B := ob)) $$ Ho
  iintro Ho
  iapply (wp_rowStore d L (B := ob)) $$ Ho
  iintro Ho
  iapply (wp_rowStore d L (B := ob)) $$ Ho
  iintro Ho
  iapply (wp_rowStore d L (B := ob)) $$ Ho
  iintro Ho
  iapply (wp_rowStore d L (B := ob)) $$ Ho
  iintro Ho
  rw [← bind_pure (SparseCore.vectorStoreIdx _ _ _ _ _ _ _)]
  iapply (wp_rowStore d L (B := ob)) $$ Ho
  iintro Ho
  rw [Prog.pure_eq_ret, wp_ret]
  imodintro
  isplitl [Hs]
  · iexact Hs
  · iapply (Entails.of_eq (congrArg (Holds d L ob) (stored_panel hp ho hv Sc X _ (dropVec_gat (h := h) (hix := hix) Sc)))) $$ Ho

end Cert.Proof.Topk

end
-- ==== Proof.Chunk.lean ====
module

public import proofs.«01_k».proof.Proof.PanelLoop

@[expose] public section

noncomputable section

namespace Cert.Proof.Topk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## All the panels of a chunk -/

theorem off4_eq : ∀ p : Fin k0_t2_loop.trips, k0_off4 p = ![p.val / 16, p.val % 16 * 128] := by decide +kernel

/-- A staged chunk after its panels: zero at the dropped positions, its own values elsewhere. -/
def chunkOut (Sc X : S8x2048.Idx → Elt F .f32) : S8x2048.Idx → Elt F .f32 :=
  fun j => if dropBit (grp Sc j) (place j) = 1 then zeroF else X j

theorem masked_zero (Sc X : S8x2048.Idx → Elt F .f32) : masked Sc X 0 = X :=
  funext fun _ => if_neg fun h => absurd h.1 (Nat.not_lt_zero _)

theorem masked_all (Sc X : S8x2048.Idx → Elt F .f32) {n : Nat} (hn : n = 128) : masked Sc X n = chunkOut Sc X := by
  subst hn
  funext j
  have h0 : (j 0).val < 8 := (j 0).isLt
  have h1 : (j 1).val < 2048 := (j 1).isLt
  exact if_congr (and_iff_right (by omega)) rfl rfl

section Loop

variable (d : Dev nD) (L : grid0.Coords)

/-- The loop over a chunk's panels: the chunk becomes `chunkOut` of the scores and itself. -/
theorem wp_panelLoop {sb ob : Memref sig .scVector .vmem S8x2048 .f32} {ix : Fin 8 → IVec S16 32}
    {hix : ∀ k, ∀ a x, ((![ix k] : Fin 1 → IVec S16 32) a x).toNat < S128.size a}
    (hv : ∀ k l, (ix k l).toNat = 8 * (l 0).val + k.val) (Sc X : S8x2048.Idx → Elt F .f32)
    {β : Type} {kk : PUnit → Prog (TpuEff nD τ sig (Elt F) Λ₀ (thr d L).2) β} {Q : β → sProp 𝕄} :
    iprop(Holds d L sb Sc ∗ Holds d L ob X)
      ⊢ iprop((iprop(Holds d L sb Sc ∗ Holds d L ob (chunkOut Sc X)) -∗ wp frame (wpE (defs₀ (F := F)) 𝒱₀ (thr d L) none) Set.univ (kk ⟨⟩) Q)
          -∗ wp frame (wpE (defs₀ (F := F)) 𝒱₀ (thr d L) none) Set.univ (panelLoop (F := F) L sb ob ix hix >>= kk) Q) := by
  iintro H HK
  unfold panelLoop
  iapply (Scf.wp_for_bind frame (wpE (defs₀ (F := F)) 𝒱₀ (thr d L) none) Set.univ _ _ _ _ _ _
    (fun p _ => iprop(Holds d L sb Sc ∗ Holds d L ob (masked Sc X p)))
    (fun p _ => wp_panel d L p.isLt (off4_eq p) hv Sc X)) $$ [H]
  · rw [masked_zero]
    iexact H
  iintro %acc ⟨Hs, Ho⟩
  iapply HK
  isplitl [Hs]; · iexact Hs
  iapply (Entails.of_eq (congrArg (Holds d L ob) (masked_all Sc X (n := Scf.trips k0_t2_loop.lb k0_t2_loop.ub k0_t2_loop.st) rfl))) $$ Ho

end Loop

/-! ## The index vectors of the panels' gathers -/

/-- The index vector of member `k`: `8 l + k` at lane `l`. -/
theorem lane_val (k : Fin 8) (w : IVec S16 32) (hw : w = addi k0_pay183 (broadcast S16 (BitVec.ofNat 32 k.val))) (l : S16.Idx) :
    (w l).toNat = 8 * (l 0).val + k.val := by
  subst hw
  revert k l
  decide +kernel

theorem lane_lt (k : Fin 8) (w : IVec S16 32) (hw : w = addi k0_pay183 (broadcast S16 (BitVec.ofNat 32 k.val))) :
    ∀ a x, ((![w] : Fin 1 → IVec S16 32) a x).toNat < S128.size a := by
  intro a x
  obtain rfl : a = 0 := Fin.eq_zero a
  have h := lane_val k w hw x
  have hk : k.val < 8 := k.isLt
  have hx : (x 0).val < 16 := (x 0).isLt
  show (w x).toNat < 128
  omega

/-! ## Chunks -/

/-- The block of 8 rows by 2048 columns at an offset, as the kernel addresses it in an array. -/
abbrev chunkAt (A : Memref sig .scVector .hbm S8192x4096 .f32) (hA : A.IsWhole) (off : Fin 3 → Nat)
    (h : ∀ a, off a + S1x8x2048.size a ≤ S1024x8x4096.size a) : Memref sig .scVector .hbm S8x2048 .f32 :=
  ((A.reshape S1024x8x4096 reshapes_S8192x4096_S1024x8x4096.1 reshapes_S8192x4096_S1024x8x4096.2 hA.contiguous).slice
    (Rect.unit (s := S1024x8x4096) off S1x8x2048.size h) (fun _ => rfl)).squeeze S8x2048 squeezes_S1x8x2048_S8x2048

/-- Where chunk `c` of a task begins. -/
def chOff (L : grid0.Coords) (c : Nat) : Fin 3 → Nat := ![64 * (L 1).val + 32 * (L 0).val + c / 2, 0, c % 2 * 2048]

theorem coord0 (L : grid0.Coords) : (L 0).val < 2 := (L 0).isLt
theorem coord1 (L : grid0.Coords) : (L 1).val < 16 := (L 1).isLt

/-- The position in the array of a position of chunk `c` of a task. -/
def pos (L : grid0.Coords) (c : Nat) (j : S8x2048.Idx) : S8192x4096.Idx := fun a => match a with
  | 0 => ⟨(8 * (64 * (L 1).val + 32 * (L 0).val + c / 2) + (j 0).val) % 8192, Nat.mod_lt _ (by decide)⟩
  | 1 => ⟨c % 2 * 2048 + (j 1).val, by
      have h1 : (j 1).val < 2048 := (j 1).isLt
      show _ < 4096
      omega⟩

theorem pos_zero (L : grid0.Coords) {c : Nat} (hc : c < 64) (j : S8x2048.Idx) :
    (pos L c j 0).val = 8 * (64 * (L 1).val + 32 * (L 0).val + c / 2) + (j 0).val := by
  have h0 := coord0 L
  have h1 := coord1 L
  have hj : (j 0).val < 8 := (j 0).isLt
  exact Nat.mod_eq_of_lt (by omega)

theorem reshape_chunk (h : S8x2048.numel = S1x8x2048.numel) (j : S8x2048.Idx) (a : Fin 3) :
    (Shape.reshapeEquiv h j a).val = (![0, (j 0).val, (j 1).val] : Fin 3 → Nat) a := by
  have e : Shape.reshapeEquiv h j = (fun a => match a with | 0 => ⟨0, Nat.one_pos⟩ | 1 => j 0 | 2 => j 1 : S1x8x2048.Idx) :=
    Shape.reshapeEquiv_eq_of_rowMajor h (by
      rw [Shape.rowMajor_val_three, Shape.rowMajor_val_two]
      show (0 * 8 + (j 0).val) * 2048 + (j 1).val = (j 0).val * 2048 + (j 1).val
      omega)
  rw [e]
  match a with
  | 0 => rfl
  | 1 => rfl
  | 2 => rfl

theorem reshape_array (h : S1024x8x4096.numel = S8192x4096.numel) (z : S1024x8x4096.Idx) (w : S8192x4096.Idx)
    (h0 : (w 0).val = 8 * (z 0).val + (z 1).val) (h1 : (w 1).val = (z 2).val) : Shape.reshapeEquiv h z = w :=
  Shape.reshapeEquiv_eq_of_rowMajor h (by
    rw [Shape.rowMajor_val_three, Shape.rowMajor_val_two, h0, h1]
    show (8 * (z 0).val + (z 1).val) * 4096 + (z 2).val = ((z 0).val * 8 + (z 1).val) * 4096 + (z 2).val
    omega)

variable {L : grid0.Coords} {c : Nat}

theorem chunk_emb {A : Memref sig .scVector .hbm S8192x4096 .f32} {hA : A.IsWhole} (hc : c < 64)
    {h : ∀ a, chOff L c a + S1x8x2048.size a ≤ S1024x8x4096.size a} (j : S8x2048.Idx) :
    (chunkAt A hA (chOff L c) h).view.emb j = A.view.emb (pos L c j) := by
  refine congrArg A.view.emb (reshape_array _ _ _ ?_ ?_)
  · rw [pos_zero L hc]
    show _ = 8 * (chOff L c 0 + 1 * (Shape.reshapeEquiv _ j 0).val) + (chOff L c 1 + 1 * (Shape.reshapeEquiv _ j 1).val)
    rw [reshape_chunk, reshape_chunk]
    show _ = 8 * (64 * (L 1).val + 32 * (L 0).val + c / 2 + 1 * 0) + (0 + 1 * (j 0).val)
    omega
  · show c % 2 * 2048 + (j 1).val = chOff L c 2 + 1 * (Shape.reshapeEquiv _ j 2).val
    rw [reshape_chunk]
    show _ = c % 2 * 2048 + 1 * (j 1).val
    omega

/-- The values of an array at chunk `c` of a task. -/
def cut (L : grid0.Coords) (c : Nat) (f : S8192x4096.Idx → Elt F .f32) : S8x2048.Idx → Elt F .f32 := fun j => f (pos L c j)

theorem chunk_read {A : Memref sig .scVector .hbm S8192x4096 .f32} {hA : A.IsWhole} (hc : c < 64)
    {h : ∀ a, chOff L c a + S1x8x2048.size a ≤ S1024x8x4096.size a} (f : A.view.ty.Contents (Elt F)) :
    (chunkAt A hA (chOff L c) h).view.read (Elt F) f = cut L c (A.view.read (Elt F) f) := by
  funext j
  show cast _ (f ((chunkAt A hA (chOff L c) h).view.emb j)) = cast _ (f (A.view.emb (pos L c j)))
  rw [chunk_emb hc]

/-- The positions of chunk `c` of a task. -/
def oSet (L : grid0.Coords) (c : Nat) : Finset S8192x4096.Idx :=
  Finset.univ.filter fun z => (z 0).val / 8 = 64 * (L 1).val + 32 * (L 0).val + c / 2 ∧ (z 1).val / 2048 = c % 2

theorem mem_oSet {z : S8192x4096.Idx} :
    z ∈ oSet L c ↔ (z 0).val / 8 = 64 * (L 1).val + 32 * (L 0).val + c / 2 ∧ (z 1).val / 2048 = c % 2 := by
  unfold oSet
  rw [Finset.mem_filter]
  exact and_iff_right (Finset.mem_univ _)

theorem pos_mem (hc : c < 64) (j : S8x2048.Idx) : pos L c j ∈ oSet L c := by
  have hj0 : (j 0).val < 8 := (j 0).isLt
  have hj1 : (j 1).val < 2048 := (j 1).isLt
  rw [mem_oSet, pos_zero L hc]
  refine ⟨by omega, ?_⟩
  show (c % 2 * 2048 + (j 1).val) / 2048 = c % 2
  omega

theorem exists_pos (hc : c < 64) {z : S8192x4096.Idx} (hz : z ∈ oSet L c) : ∃ j, pos L c j = z := by
  rw [mem_oSet] at hz
  refine ⟨fun a => match a with
    | 0 => ⟨(z 0).val % 8, Nat.mod_lt _ (by decide)⟩
    | 1 => ⟨(z 1).val % 2048, Nat.mod_lt _ (by decide)⟩, funext fun a => Fin.ext ?_⟩
  match a with
  | 0 =>
    rw [pos_zero L hc]
    show _ + (z 0).val % 8 = (z 0).val
    omega
  | 1 =>
    show c % 2 * 2048 + (z 1).val % 2048 = (z 1).val
    omega

end Cert.Proof.Topk

end
-- ==== Proof.Transfer.lean ====
module

public import proofs.«01_k».proof.Proof.Chunk

@[expose] public section

noncomputable section

namespace Cert.Proof.Topk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "oV" => (Memref.whole Cert.KernelIdeal.main_v0_scv : Memref Cert.KernelIdeal.sig Kind.scVector Space.hbm Cert.KernelIdeal.S8192x4096 EltTy.f32)

/-! ## A task's local transfers -/

section Transfers

variable (d : Dev nD) (L : grid0.Coords)

/-- What a task owes, with every wait of its own so far at the index of none. -/
def Ow (O : CellTallies nD τ sig (HIx 1)) (W : Waits sig (HIx 1)) : sProp 𝕄 :=
  iprop(Transfers.MayWaits (thr d L) (default : HIx 1) O ∗ ∃ W', ⌜∀ p ∈ W', p ∈ W ∨ p.2 = none⌝ ∗ owes (thr d L) O W')

/-- Chunk `c` of an array on its way to a staging buffer: what the wait delivers is the buffer holding the chunk, and
    the share of the array. -/
def InFl (A : Memref sig .scVector .hbm S8192x4096 .f32) (B : Memref sig .scVector .vmem S8x2048 .f32) (sem : DmaSem sig)
    (q : PosShare TreeShare) (f : Buf (Elt F) (A.view.loc (thr d L))) (c : Nat) : sProp 𝕄 :=
  iprop(∃ I : Finset (Idx (A.view.loc (thr d L))),
    Transfers.Flight countersEmb (thr d L) (.dma sem) (default : HIx 1) B.view.dmaCredit
        iprop(Holds d L B (cut L c (A.view.read (Elt F) f)) ∗ (A.view.loc (thr d L) ↦[I]{q} f))
      ∗ (A.view.loc (thr d L) ↦[Finset.univ \ I]{q} f))

theorem inb_zero : ∀ a, (![0, 0, 0] : Fin 3 → Nat) a + S1x8x2048.size a ≤ S1024x8x4096.size a := by decide

/-- The units a copy of one chunk to the result credits. -/
def outCredit : Nat := (chunkAt oV (Memref.isWhole_whole _) ![0, 0, 0] inb_zero).view.dmaCredit

theorem outCredit_pos : 0 < outCredit := by decide

/-- Chunk `c` of the result on its way out of a staging buffer: what the wait delivers is the chunk written with the
    values of `G`, and the buffer. -/
def OutFl (B : Memref sig .scVector .vmem S8x2048 .f32) (sem : DmaSem sig) (G : Buf (Elt F) (oLoc d)) (c : Nat) : sProp 𝕄 :=
  Transfers.Flight countersEmb (thr d L) (.dma sem) (default : HIx 1)
    outCredit
    iprop((oLoc d ↦[oSet L c]{fullShare} G) ∗ ∃ Y, Holds d L B Y)

variable {d L} {O : CellTallies nD τ sig (HIx 1)} {W : Waits sig (HIx 1)}
variable {A : Memref sig .scVector .hbm S8192x4096 .f32} {hA : A.IsWhole} {B : Memref sig .scVector .vmem S8x2048 .f32} {sem : DmaSem sig}
variable {q : PosShare TreeShare} {f : Buf (Elt F) (A.view.loc (thr d L))} {G : Buf (Elt F) (oLoc d)} {c : Nat}
variable {off : Fin 3 → Nat} {h : ∀ a, off a + S1x8x2048.size a ≤ S1024x8x4096.size a}

/-- Starting the copy of chunk `c` of an array into a staging buffer. -/
theorem wp_startIn (hc : c < 64) (ho : off = chOff L c) (hN : 0 < B.view.dmaCredit)
    {h1 : (chunkAt A hA off h).view.WordExact} {h2 : B.view.WordExact} {h3 : DmaTarget.Typed (nD := nD) .hbm (.dma sem) (DmaTarget.here (τ := τ) (p := (thr d L).2) B)}
    {β : Type} {kk : PUnit → Prog (TpuEff nD τ sig (Elt F) Λ₀ (thr d L).2) β} {Q : β → sProp 𝕄} :
    iprop((A.view.loc (thr d L) ↦[Finset.univ]{q} f) ∗ (∃ Y, Holds d L B Y) ∗ semVal (thr d L, .dma sem) 0)
      ⊢ iprop((InFl d L A B sem q f c -∗ wp frame (wpE (defs₀ (F := F)) 𝒱₀ (thr d L) none) Set.univ (kk ⟨⟩) Q)
          -∗ wp frame (wpE (defs₀ (F := F)) 𝒱₀ (thr d L) none) Set.univ
              (Prog.lift (TpuEff.enqueueDma (chunkAt A hA off h) (.here B) (.dma sem) h1 h2 h3) >>= kk) Q) := by
  subst ho
  iintro ⟨HA, ⟨%Y, HB⟩, Hv⟩ HK
  unfold Holds
  icases HB with ⟨%g, -, HB⟩
  ihave HA' := (pointsTo_split_subset (S := Finset.univ) (Finset.subset_univ (chunkAt A hA (chOff L c) h).view.set)).1 $$ HA
  icases HA' with ⟨HA, HR⟩
  iapply (Transfers.wp_dmaLocal countersEmb 𝒱₀ (thr d L) none (default : HIx 1) B.view.dmaCredit rfl hN (Finset.Subset.refl _)) $$ [HA HB Hv]
  · isplitl [HA]; · iexact HA
    isplitl [HB]; · iexact HB
    iexact Hv
  iintro Hf
  iapply HK
  unfold InFl
  iexists (chunkAt A hA (chOff L c) h).view.set
  isplitl [Hf]
  · iapply (Transfers.Flight_mono ?_) $$ Hf
    iintro ⟨HB, HA⟩
    isplitl [HB]
    · unfold Holds
      iexists _
      isplitr
      swap; · iexact HB
      ipureintro
      rw [View.read_write_univ, ← chunk_read (hA := hA) hc (h := h)]
    · iexact HA
  · iexact HR

/-- Waiting for that copy. -/
theorem wp_waitIn {h1 : (chunkAt A hA off h).view.WordExact} {h2 : B.view.WordExact}
    {β : Type} {kk : PUnit → Prog (TpuEff nD τ sig (Elt F) Λ₀ (thr d L).2) β} {Q : β → sProp 𝕄} :
    iprop(InFl d L A B sem q f c ∗ Ow (F := F) d L O W)
      ⊢ iprop((iprop((A.view.loc (thr d L) ↦[Finset.univ]{q} f) ∗ Holds d L B (cut L c (A.view.read (Elt F) f)) ∗ semVal (thr d L, .dma sem) 0 ∗ Ow (F := F) d L O W)
            -∗ wp frame (wpE (defs₀ (F := F)) 𝒱₀ (thr d L) none) Set.univ (kk ⟨⟩) Q)
          -∗ wp frame (wpE (defs₀ (F := F)) 𝒱₀ (thr d L) none) Set.univ
              (Prog.lift (TpuEff.waitDma2 sem (chunkAt A hA off h) B h1 h2) >>= kk) Q) := by
  unfold InFl Ow
  iintro ⟨⟨%I, Hf, HR⟩, #Hmw, %W', %hW', HO⟩ HK
  iapply (Transfers.wp_waitLocalO countersEmb 𝒱₀ (thr d L) none (default : HIx 1) (rfl : B.view.dmaCredit = _)) $$ [Hf HO]
  · isplitl [Hf]; · iexact Hf
    isplitl [HO]; · iexact HO
    iapply (Transfers.MayWaits.elim (SemLoc.dma sem)) $$ Hmw
  iintro ⟨⟨HB, HA⟩, Hv, HO⟩
  iapply HK
  isplitl [HA HR]
  · iapply (pointsTo_split_subset (S := Finset.univ) (Finset.subset_univ I)).2
    isplitl [HA] <;> iassumption
  isplitl [HB]; · iexact HB
  isplitl [Hv]; · iexact Hv
  isplitr; · iexact Hmw
  iexists _
  isplitr
  swap; · iexact HO
  ipureintro
  intro p hp
  rcases Finset.mem_insert.mp hp with hp | hp
  · exact .inr (hp ▸ rfl)
  · exact hW' p hp

/-- Starting the copy of a staging buffer out to chunk `c` of the result. -/
theorem wp_startOut (hc : c < 64) (ho : off = chOff L c) {X : S8x2048.Idx → Elt F .f32} (hG : cut L c ((oV).view.read (Elt F) G) = X)
    {g : Buf (Elt F) (oLoc d)}
    {h1 : B.view.WordExact} {h2 : (chunkAt oV (Memref.isWhole_whole _) off h).view.WordExact}
    {h3 : DmaTarget.Typed (nD := nD) .vmem (.dma sem) (DmaTarget.here (τ := τ) (p := (thr d L).2) (chunkAt oV (Memref.isWhole_whole _) off h))}
    {β : Type} {kk : PUnit → Prog (TpuEff nD τ sig (Elt F) Λ₀ (thr d L).2) β} {Q : β → sProp 𝕄} :
    iprop(Holds d L B X ∗ (oLoc d ↦[oSet L c]{fullShare} g) ∗ semVal (thr d L, .dma sem) 0)
      ⊢ iprop((OutFl d L B sem G c -∗ wp frame (wpE (defs₀ (F := F)) 𝒱₀ (thr d L) none) Set.univ (kk ⟨⟩) Q)
          -∗ wp frame (wpE (defs₀ (F := F)) 𝒱₀ (thr d L) none) Set.univ
              (Prog.lift (TpuEff.enqueueDma B (.here (chunkAt oV (Memref.isWhole_whole _) off h)) (.dma sem) h1 h2 h3) >>= kk) Q) := by
  subst ho
  unfold Holds
  iintro ⟨⟨%b, %hb, HB⟩, Ho, Hv⟩ HK
  have hset : (chunkAt oV (Memref.isWhole_whole _) (chOff L c) h).view.set ⊆ oSet L c := by
    intro z hz
    obtain ⟨j, -, rfl⟩ := Finset.mem_map.1 hz
    rw [chunk_emb hc]
    exact pos_mem hc j
  iapply (Transfers.wp_dmaLocal countersEmb 𝒱₀ (thr d L) none (default : HIx 1) outCredit
    rfl outCredit_pos hset) $$ [HB Ho Hv]
  · isplitl [HB]; · iexact HB
    isplitl [Ho]; · iexact Ho
    iexact Hv
  iintro Hf
  iapply HK
  unfold OutFl
  iapply (Transfers.Flight_mono ?_) $$ Hf
  iintro ⟨Ho, HB⟩
  isplitl [Ho]
  · iapply (Entails.of_eq (pointsTo_congr ?_)) $$ Ho
    intro z hz
    obtain ⟨j, rfl⟩ := exists_pos hc hz
    have e := congrFun (chunk_read (A := oV) (hA := Memref.isWhole_whole _) hc (h := h)
      (View.write (Elt F) (chunkAt oV (Memref.isWhole_whole _) (chOff L c) h).view g (B.view.read (Elt F) b) Finset.univ)) j
    rw [View.read_write_univ] at e
    exact e.symm.trans (congrFun (hb.trans hG.symm) j)
  · iexists X
    unfold Holds
    iexists b
    isplitr
    · ipureintro; exact hb
    · iexact HB

/-- Waiting for that copy. -/
theorem wp_waitOut {h1 : B.view.WordExact} {h2 : (chunkAt oV (Memref.isWhole_whole _) off h).view.WordExact}
    {β : Type} {kk : PUnit → Prog (TpuEff nD τ sig (Elt F) Λ₀ (thr d L).2) β} {Q : β → sProp 𝕄} :
    iprop(OutFl d L B sem G c ∗ Ow (F := F) d L O W)
      ⊢ iprop((iprop((oLoc d ↦[oSet L c]{fullShare} G) ∗ (∃ Y, Holds d L B Y) ∗ semVal (thr d L, .dma sem) 0 ∗ Ow (F := F) d L O W)
            -∗ wp frame (wpE (defs₀ (F := F)) 𝒱₀ (thr d L) none) Set.univ (kk ⟨⟩) Q)
          -∗ wp frame (wpE (defs₀ (F := F)) 𝒱₀ (thr d L) none) Set.univ
              (Prog.lift (TpuEff.waitDma2 sem B (chunkAt oV (Memref.isWhole_whole _) off h) h1 h2) >>= kk) Q) := by
  unfold OutFl Ow
  iintro ⟨Hf, #Hmw, %W', %hW', HO⟩ HK
  iapply (Transfers.wp_waitLocalO countersEmb 𝒱₀ (thr d L) none (default : HIx 1) (rfl : (chunkAt oV (Memref.isWhole_whole _) off h).view.dmaCredit = outCredit)) $$ [Hf HO]
  · isplitl [Hf]; · iexact Hf
    isplitl [HO]; · iexact HO
    iapply (Transfers.MayWaits.elim (SemLoc.dma sem)) $$ Hmw
  iintro ⟨⟨Ho, HB⟩, Hv, HO⟩
  iapply HK
  isplitl [Ho]; · iexact Ho
  isplitl [HB]; · iexact HB
  isplitl [Hv]; · iexact Hv
  isplitr; · iexact Hmw
  iexists _
  isplitr
  swap; · iexact HO
  ipureintro
  intro p hp
  rcases Finset.mem_insert.mp hp with hp | hp
  · exact .inr (hp ▸ rfl)
  · exact hW' p hp

end Transfers

end Cert.Proof.Topk

end
-- ==== Proof.Slots.lean ====
module

public import proofs.«01_k».proof.Proof.Transfer

@[expose] public section

noncomputable section

namespace Cert.Proof.Topk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8192x4096 EltTy.f32)
local notation "sV" => (Memref.whole Cert.KernelIdeal.main_arg1_scv : Memref Cert.KernelIdeal.sig Kind.scVector Space.hbm Cert.KernelIdeal.S8192x4096 EltTy.f32)
local notation "oV" => (Memref.whole Cert.KernelIdeal.main_v0_scv : Memref Cert.KernelIdeal.sig Kind.scVector Space.hbm Cert.KernelIdeal.S8192x4096 EltTy.f32)

/-! ## The stages of one slot: its two staging buffers, its three semaphores, its shares of the inputs -/

section Slots

variable (d : Dev nD) (L : grid0.Coords) (fx : Buf (Elt F) (xLoc d)) (fs : Buf (Elt F) (sLoc d)) (G : Buf (Elt F) (oLoc d))
variable (sb ob : Memref sig .scVector .vmem S8x2048 .f32) (sx ss so : DmaSem sig) (q : PosShare TreeShare) (c : Nat)

/-- The slot's shares of the two inputs, and its semaphores for their copies at zero. -/
def Shares : sProp 𝕄 :=
  iprop((xLoc d ↦[Finset.univ]{q} fx) ∗ (sLoc d ↦[Finset.univ]{q} fs) ∗ semVal (thr d L, .dma sx) 0 ∗ semVal (thr d L, .dma ss) 0)

/-- Nothing under way. -/
def Idle : sProp 𝕄 :=
  iprop(Shares d L fx fs sx ss q ∗ (∃ Y, Holds (F := F) d L sb Y) ∗ (∃ Y, Holds (F := F) d L ob Y) ∗ semVal (thr d L, .dma so) 0)

/-- Chunk `c` of both inputs on its way in. -/
def Loading : sProp 𝕄 :=
  iprop(InFl d L xV ob sx q fx c ∗ InFl d L sV sb ss q fs c ∗ semVal (thr d L, .dma so) 0)

/-- Chunk `c` of both inputs in the staging buffers. -/
def Ready : sProp 𝕄 :=
  iprop(Shares d L fx fs sx ss q ∗ Holds d L sb (cut L c ((sV).view.read (Elt F) fs)) ∗ Holds d L ob (cut L c ((xV).view.read (Elt F) fx))
    ∗ semVal (thr d L, .dma so) 0)

/-- Chunk `c` computed. -/
def Done : sProp 𝕄 :=
  iprop(Shares d L fx fs sx ss q ∗ Holds d L sb (cut L c ((sV).view.read (Elt F) fs))
    ∗ Holds d L ob (chunkOut (cut L c ((sV).view.read (Elt F) fs)) (cut L c ((xV).view.read (Elt F) fx))) ∗ semVal (thr d L, .dma so) 0)

/-- Chunk `c` on its way out. -/
def Storing : sProp 𝕄 :=
  iprop(Shares d L fx fs sx ss q ∗ (∃ Y, Holds (F := F) d L sb Y) ∗ OutFl d L ob so G c)

/-- What the result is to hold, chunk by chunk. -/
def GoodOn : Prop :=
  ∀ c < 64, cut L c ((oV).view.read (Elt F) G) = chunkOut (cut L c ((sV).view.read (Elt F) fs)) (cut L c ((xV).view.read (Elt F) fx))

variable {d L fx fs G sb ob sx ss so q c} {O : CellTallies nD τ sig (HIx 1)} {W : Waits sig (HIx 1)}
variable {off off' : Fin 3 → Nat} {h : ∀ a, off a + S1x8x2048.size a ≤ S1024x8x4096.size a} {h' : ∀ a, off' a + S1x8x2048.size a ≤ S1024x8x4096.size a}

/-- Starting the two copies in. -/
theorem wp_load (hc : c < 64) (ho : off = chOff L c) (ho' : off' = chOff L c) (hN : 0 < ob.view.dmaCredit) (hN' : 0 < sb.view.dmaCredit)
    {h1 : (chunkAt xV (Memref.isWhole_whole _) off h).view.WordExact} {h2 : ob.view.WordExact}
    {h3 : DmaTarget.Typed (nD := nD) .hbm (.dma sx) (DmaTarget.here (τ := τ) (p := (thr d L).2) ob)}
    {h1' : (chunkAt sV (Memref.isWhole_whole _) off' h').view.WordExact} {h2' : sb.view.WordExact}
    {h3' : DmaTarget.Typed (nD := nD) .hbm (.dma ss) (DmaTarget.here (τ := τ) (p := (thr d L).2) sb)}
    {β : Type} {kk : PUnit → Prog (TpuEff nD τ sig (Elt F) Λ₀ (thr d L).2) β} {Q : β → sProp 𝕄} :
    Idle d L fx fs sb ob sx ss so q
      ⊢ iprop((Loading d L fx fs sb ob sx ss so q c -∗ wp frame (wpE (defs₀ (F := F)) 𝒱₀ (thr d L) none) Set.univ (kk ⟨⟩) Q)
          -∗ wp frame (wpE (defs₀ (F := F)) 𝒱₀ (thr d L) none) Set.univ
              (Prog.lift (TpuEff.enqueueDma (chunkAt xV (Memref.isWhole_whole _) off h) (.here ob) (.dma sx) h1 h2 h3) >>= fun _ =>
                Prog.lift (TpuEff.enqueueDma (chunkAt sV (Memref.isWhole_whole _) off' h') (.here sb) (.dma ss) h1' h2' h3') >>= kk) Q) := by
  unfold Idle Shares
  iintro ⟨⟨Hx, Hs, Hsx, Hss⟩, Hsb, Hob, Hso⟩ HK
  iapply (wp_startIn (A := xV) hc ho hN) $$ [Hx Hob Hsx]
  · isplitl [Hx]; · iexact Hx
    isplitl [Hob] <;> iassumption
  iintro Hx
  iapply (wp_startIn (A := sV) hc ho' hN') $$ [Hs Hsb Hss]
  · isplitl [Hs]; · iexact Hs
    isplitl [Hsb] <;> iassumption
  iintro Hs
  iapply HK
  unfold Loading
  isplitl [Hx]; · iexact Hx
  isplitl [Hs] <;> iassumption

/-- Waiting for them. -/
theorem wp_arrive
    {h1 : (chunkAt xV (Memref.isWhole_whole _) off h).view.WordExact} {h2 : ob.view.WordExact}
    {h1' : (chunkAt sV (Memref.isWhole_whole _) off' h').view.WordExact} {h2' : sb.view.WordExact}
    {β : Type} {kk : PUnit → Prog (TpuEff nD τ sig (Elt F) Λ₀ (thr d L).2) β} {Q : β → sProp 𝕄} :
    iprop(Loading d L fx fs sb ob sx ss so q c ∗ Ow (F := F) d L O W)
      ⊢ iprop((iprop(Ready d L fx fs sb ob sx ss so q c ∗ Ow (F := F) d L O W) -∗ wp frame (wpE (defs₀ (F := F)) 𝒱₀ (thr d L) none) Set.univ (kk ⟨⟩) Q)
          -∗ wp frame (wpE (defs₀ (F := F)) 𝒱₀ (thr d L) none) Set.univ
              (Prog.lift (TpuEff.waitDma2 sx (chunkAt xV (Memref.isWhole_whole _) off h) ob h1 h2) >>= fun _ =>
                Prog.lift (TpuEff.waitDma2 ss (chunkAt sV (Memref.isWhole_whole _) off' h') sb h1' h2') >>= kk) Q) := by
  unfold Loading
  iintro ⟨⟨Hx, Hs, Hso⟩, HO⟩ HK
  iapply (wp_waitIn (A := xV)) $$ [Hx HO]
  · isplitl [Hx] <;> iassumption
  iintro ⟨Hx, Hob, Hsx, HO⟩
  iapply (wp_waitIn (A := sV)) $$ [Hs HO]
  · isplitl [Hs] <;> iassumption
  iintro ⟨Hs, Hsb, Hss, HO⟩
  iapply HK
  unfold Ready Shares
  isplitr [HO]
  swap; · iexact HO
  isplitl [Hx Hs Hsx Hss]
  · isplitl [Hx]; · iexact Hx
    isplitl [Hs]; · iexact Hs
    isplitl [Hsx] <;> iassumption
  isplitl [Hsb]; · iexact Hsb
  isplitl [Hob] <;> iassumption

/-- The panels. -/
theorem wp_compute {ix : Fin 8 → IVec S16 32} {hix : ∀ k, ∀ a x, ((![ix k] : Fin 1 → IVec S16 32) a x).toNat < S128.size a}
    (hv : ∀ k l, (ix k l).toNat = 8 * (l 0).val + k.val)
    {β : Type} {kk : PUnit → Prog (TpuEff nD τ sig (Elt F) Λ₀ (thr d L).2) β} {Q : β → sProp 𝕄} :
    Ready d L fx fs sb ob sx ss so q c
      ⊢ iprop((Done d L fx fs sb ob sx ss so q c -∗ wp frame (wpE (defs₀ (F := F)) 𝒱₀ (thr d L) none) Set.univ (kk ⟨⟩) Q)
          -∗ wp frame (wpE (defs₀ (F := F)) 𝒱₀ (thr d L) none) Set.univ (panelLoop (F := F) L sb ob ix hix >>= kk) Q) := by
  unfold Ready Done
  iintro ⟨Hsh, Hsb, Hob, Hso⟩ HK
  iapply (wp_panelLoop d L hv) $$ [Hsb Hob]
  · isplitl [Hsb] <;> iassumption
  iintro ⟨Hsb, Hob⟩
  iapply HK
  isplitl [Hsh]; · iexact Hsh
  isplitl [Hsb]; · iexact Hsb
  isplitl [Hob] <;> iassumption

/-- Starting the copy out. -/
theorem wp_store (hG : GoodOn d L fx fs G) (hc : c < 64) (ho : off = chOff L c) {g : Buf (Elt F) (oLoc d)}
    {h1 : ob.view.WordExact} {h2 : (chunkAt oV (Memref.isWhole_whole _) off h).view.WordExact}
    {h3 : DmaTarget.Typed (nD := nD) .vmem (.dma so) (DmaTarget.here (τ := τ) (p := (thr d L).2) (chunkAt oV (Memref.isWhole_whole _) off h))}
    {β : Type} {kk : PUnit → Prog (TpuEff nD τ sig (Elt F) Λ₀ (thr d L).2) β} {Q : β → sProp 𝕄} :
    iprop(Done d L fx fs sb ob sx ss so q c ∗ (oLoc d ↦[oSet L c]{fullShare} g))
      ⊢ iprop((Storing d L fx fs G sb ob sx ss so q c -∗ wp frame (wpE (defs₀ (F := F)) 𝒱₀ (thr d L) none) Set.univ (kk ⟨⟩) Q)
          -∗ wp frame (wpE (defs₀ (F := F)) 𝒱₀ (thr d L) none) Set.univ
              (Prog.lift (TpuEff.enqueueDma ob (.here (chunkAt oV (Memref.isWhole_whole _) off h)) (.dma so) h1 h2 h3) >>= kk) Q) := by
  unfold Done Storing
  iintro ⟨⟨Hsh, Hsb, Hob, Hso⟩, Ho⟩ HK
  iapply (wp_startOut hc ho (hG c hc)) $$ [Hob Ho Hso]
  · isplitl [Hob]; · iexact Hob
    isplitl [Ho] <;> iassumption
  iintro Hf
  iapply HK
  isplitl [Hsh]; · iexact Hsh
  isplitl [Hsb]
  · iexists _
    iexact Hsb
  · iexact Hf

/-- Waiting for it. -/
theorem wp_free {h1 : ob.view.WordExact} {h2 : (chunkAt oV (Memref.isWhole_whole _) off h).view.WordExact}
    {β : Type} {kk : PUnit → Prog (TpuEff nD τ sig (Elt F) Λ₀ (thr d L).2) β} {Q : β → sProp 𝕄} :
    iprop(Storing d L fx fs G sb ob sx ss so q c ∗ Ow (F := F) d L O W)
      ⊢ iprop((iprop(Idle d L fx fs sb ob sx ss so q ∗ (oLoc d ↦[oSet L c]{fullShare} G) ∗ Ow (F := F) d L O W)
            -∗ wp frame (wpE (defs₀ (F := F)) 𝒱₀ (thr d L) none) Set.univ (kk ⟨⟩) Q)
          -∗ wp frame (wpE (defs₀ (F := F)) 𝒱₀ (thr d L) none) Set.univ
              (Prog.lift (TpuEff.waitDma2 so ob (chunkAt oV (Memref.isWhole_whole _) off h) h1 h2) >>= kk) Q) := by
  unfold Storing Idle
  iintro ⟨⟨Hsh, Hsb, Hf⟩, HO⟩ HK
  iapply wp_waitOut $$ [Hf HO]
  · isplitl [Hf] <;> iassumption
  iintro ⟨Ho, Hob, Hso, HO⟩
  iapply HK
  isplitr [Ho HO]
  · isplitl [Hsh]; · iexact Hsh
    isplitl [Hsb]; · iexact Hsb
    isplitl [Hob] <;> iassumption
  · isplitl [Ho] <;> iassumption

end Slots

/-! ## The offsets and the conditions of the main loop's trips -/

theorem off1_ch (L : grid0.Coords) : k0_off1 L = chOff L 0 := k0_off1_eq L
theorem off2_0_ch (L : grid0.Coords) : k0_off2 L 0#32 = chOff L 1 := k0_off2_eq L 0
theorem off2_31_ch (L : grid0.Coords) : k0_off2 L 31#32 = chOff L 63 := k0_off2_eq L 1
theorem off50_30_ch (L : grid0.Coords) : k0_off50 L 30#32 = chOff L 61 := k0_off50_eq L 0
theorem off50_31_ch (L : grid0.Coords) : k0_off50 L 31#32 = chOff L 63 := k0_off50_eq L 1
theorem off51_ch (L : grid0.Coords) : k0_off51 L = chOff L 62 := k0_off51_eq L

theorem off3_ch : ∀ (L : grid0.Coords) (t : Fin k0_t1_loop.trips), k0_off3 L t = chOff L (3 * t.val) := by decide +kernel
theorem off13_ch : ∀ (L : grid0.Coords) (t : Fin k0_t1_loop.trips), k0_off13 L t = chOff L (3 * t.val) := by decide +kernel
theorem off14_ch : ∀ (L : grid0.Coords) (t : Fin k0_t1_loop.trips), 1 ≤ t.val → k0_off14 L t = chOff L (3 * t.val - 1) := by decide +kernel
theorem off15_ch : ∀ (L : grid0.Coords) (t : Fin k0_t1_loop.trips), k0_off15 L t = chOff L (3 * t.val + 2) := by decide +kernel
theorem off16_ch : ∀ (L : grid0.Coords) (t : Fin k0_t1_loop.trips), k0_off16 L t = chOff L (3 * t.val + 1) := by decide +kernel
theorem off26_1_ch : ∀ (L : grid0.Coords) (t : Fin k0_t1_loop.trips), k0_off26 L t 1#32 = chOff L (3 * t.val + 1) := by decide +kernel
theorem off26_2_ch : ∀ (L : grid0.Coords) (t : Fin k0_t1_loop.trips), k0_off26 L t 2#32 = chOff L (3 * t.val + 2) := by decide +kernel
theorem off27_ch : ∀ (L : grid0.Coords) (t : Fin k0_t1_loop.trips), k0_off27 L t = chOff L (3 * t.val) := by decide +kernel
theorem off28_ch : ∀ (L : grid0.Coords) (t : Fin k0_t1_loop.trips), k0_off28 L t = chOff L (3 * t.val + 3) := by decide +kernel
theorem off38_ch : ∀ (L : grid0.Coords) (t : Fin k0_t1_loop.trips), k0_off38 L t = chOff L (3 * t.val + 2) := by decide +kernel
theorem off39_ch : ∀ (L : grid0.Coords) (t : Fin k0_t1_loop.trips), t.val < 20 → k0_off39 L t = chOff L (3 * t.val + 1) := by decide +kernel
theorem off40_ch : ∀ (L : grid0.Coords) (t : Fin k0_t1_loop.trips), t.val < 20 → k0_off40 L t = chOff L (3 * t.val + 4) := by decide +kernel

theorem cond1_true : ∀ t : Fin k0_t1_loop.trips, k0_cond1 t = 1#1 := by decide +kernel
theorem cond2_iff : ∀ t : Fin k0_t1_loop.trips, k0_cond2 t = 1#1 ↔ 1 ≤ t.val := by decide +kernel
theorem cond3_true : ∀ t : Fin k0_t1_loop.trips, k0_cond3 t = 1#1 := by decide +kernel
theorem cond4_true : ∀ t : Fin k0_t1_loop.trips, k0_cond4 t = 1#1 := by decide +kernel
theorem cond5_iff : ∀ t : Fin k0_t1_loop.trips, k0_cond5 t = 1#1 ↔ t.val < 20 := by decide +kernel
theorem cond6_true : ∀ t : Fin k0_t1_loop.trips, k0_cond6 t = 1#1 := by decide +kernel
theorem t1_trips : k0_t1_loop.trips = 21 := by decide +kernel

end Cert.Proof.Topk

end
-- ==== Proof.Parts.lean ====
module

public import proofs.«01_k».proof.Proof.Slots
public import Idealize.SL.BI.BigOpNat

@[expose] public section

noncomputable section

namespace Cert.Proof.Topk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8192x4096 EltTy.f32)
local notation "sV" => (Memref.whole Cert.KernelIdeal.main_arg1_scv : Memref Cert.KernelIdeal.sig Kind.scVector Space.hbm Cert.KernelIdeal.S8192x4096 EltTy.f32)
local notation "oV" => (Memref.whole Cert.KernelIdeal.main_v0_scv : Memref Cert.KernelIdeal.sig Kind.scVector Space.hbm Cert.KernelIdeal.S8192x4096 EltTy.f32)
local notation "sB0" => (Memref.whole Cert.KernelIdeal.cc0_scratch0 : Memref Cert.KernelIdeal.sig Kind.scVector Space.vmem Cert.KernelIdeal.S8x2048 EltTy.f32)
local notation "sB1" => (Memref.whole Cert.KernelIdeal.cc0_scratch1 : Memref Cert.KernelIdeal.sig Kind.scVector Space.vmem Cert.KernelIdeal.S8x2048 EltTy.f32)
local notation "sB2" => (Memref.whole Cert.KernelIdeal.cc0_scratch2 : Memref Cert.KernelIdeal.sig Kind.scVector Space.vmem Cert.KernelIdeal.S8x2048 EltTy.f32)
local notation "oB0" => (Memref.whole Cert.KernelIdeal.cc0_scratch3 : Memref Cert.KernelIdeal.sig Kind.scVector Space.vmem Cert.KernelIdeal.S8x2048 EltTy.f32)
local notation "oB1" => (Memref.whole Cert.KernelIdeal.cc0_scratch4 : Memref Cert.KernelIdeal.sig Kind.scVector Space.vmem Cert.KernelIdeal.S8x2048 EltTy.f32)
local notation "oB2" => (Memref.whole Cert.KernelIdeal.cc0_scratch5 : Memref Cert.KernelIdeal.sig Kind.scVector Space.vmem Cert.KernelIdeal.S8x2048 EltTy.f32)

/-! ## The checks before each loop over panels -/

theorem chk1 : k0_chk1 (k0_pay118 k0_pay183) := ⟨lane_lt 0 _ rfl, lane_lt 0 _ rfl⟩
theorem chk2 : k0_chk2 (k0_pay119 k0_pay183) := ⟨lane_lt 1 _ rfl, lane_lt 1 _ rfl⟩
theorem chk3 : k0_chk3 (k0_pay120 k0_pay183) := ⟨lane_lt 2 _ rfl, lane_lt 2 _ rfl⟩
theorem chk4 : k0_chk4 (k0_pay121 k0_pay183) := ⟨lane_lt 3 _ rfl, lane_lt 3 _ rfl⟩
theorem chk5 : k0_chk5 (k0_pay122 k0_pay183) := ⟨lane_lt 4 _ rfl, lane_lt 4 _ rfl⟩
theorem chk6 : k0_chk6 (k0_pay123 k0_pay183) := ⟨lane_lt 5 _ rfl, lane_lt 5 _ rfl⟩
theorem chk7 : k0_chk7 (k0_pay124 k0_pay183) := ⟨lane_lt 6 _ rfl, lane_lt 6 _ rfl⟩
theorem chk8 : k0_chk8 (k0_pay125 k0_pay183) := ⟨lane_lt 7 _ rfl, lane_lt 7 _ rfl⟩

/-- The index vectors of the first loop over panels. -/
theorem lanes2 (k : Fin 8) (l : S16.Idx) : ((![k0_pay118 k0_pay183, k0_pay119 k0_pay183, k0_pay120 k0_pay183, k0_pay121 k0_pay183, k0_pay122 k0_pay183, k0_pay123 k0_pay183, k0_pay124 k0_pay183, k0_pay125 k0_pay183] : Fin 8 → IVec S16 32) k l).toNat = 8 * (l 0).val + k.val :=
  lane_val k _ (fin8 (P := fun k => (![k0_pay118 k0_pay183, k0_pay119 k0_pay183, k0_pay120 k0_pay183, k0_pay121 k0_pay183, k0_pay122 k0_pay183, k0_pay123 k0_pay183, k0_pay124 k0_pay183, k0_pay125 k0_pay183] : Fin 8 → IVec S16 32) k = addi k0_pay183 (broadcast S16 (BitVec.ofNat 32 k.val))) rfl rfl rfl rfl rfl rfl rfl rfl k) l

theorem chk9 : k0_chk9 (k0_pay127 k0_pay183 0#32) := ⟨lane_lt 0 _ rfl, lane_lt 0 _ rfl⟩
theorem chk10 : k0_chk10 (k0_pay128 k0_pay183) := ⟨lane_lt 1 _ rfl, lane_lt 1 _ rfl⟩
theorem chk11 : k0_chk11 (k0_pay129 k0_pay183) := ⟨lane_lt 2 _ rfl, lane_lt 2 _ rfl⟩
theorem chk12 : k0_chk12 (k0_pay130 k0_pay183) := ⟨lane_lt 3 _ rfl, lane_lt 3 _ rfl⟩
theorem chk13 : k0_chk13 (k0_pay131 k0_pay183) := ⟨lane_lt 4 _ rfl, lane_lt 4 _ rfl⟩
theorem chk14 : k0_chk14 (k0_pay132 k0_pay183) := ⟨lane_lt 5 _ rfl, lane_lt 5 _ rfl⟩
theorem chk15 : k0_chk15 (k0_pay133 k0_pay183) := ⟨lane_lt 6 _ rfl, lane_lt 6 _ rfl⟩
theorem chk16 : k0_chk16 (k0_pay134 k0_pay183) := ⟨lane_lt 7 _ rfl, lane_lt 7 _ rfl⟩

/-- The index vectors of the second loop over panels. -/
theorem lanes3 (k : Fin 8) (l : S16.Idx) : ((![k0_pay127 k0_pay183 0#32, k0_pay128 k0_pay183, k0_pay129 k0_pay183, k0_pay130 k0_pay183, k0_pay131 k0_pay183, k0_pay132 k0_pay183, k0_pay133 k0_pay183, k0_pay134 k0_pay183] : Fin 8 → IVec S16 32) k l).toNat = 8 * (l 0).val + k.val :=
  lane_val k _ (fin8 (P := fun k => (![k0_pay127 k0_pay183 0#32, k0_pay128 k0_pay183, k0_pay129 k0_pay183, k0_pay130 k0_pay183, k0_pay131 k0_pay183, k0_pay132 k0_pay183, k0_pay133 k0_pay183, k0_pay134 k0_pay183] : Fin 8 → IVec S16 32) k = addi k0_pay183 (broadcast S16 (BitVec.ofNat 32 k.val))) rfl rfl rfl rfl rfl rfl rfl rfl k) l

theorem chk17 : k0_chk17 (k0_pay136 k0_pay183) := ⟨lane_lt 0 _ rfl, lane_lt 0 _ rfl⟩
theorem chk18 : k0_chk18 (k0_pay137 k0_pay183) := ⟨lane_lt 1 _ rfl, lane_lt 1 _ rfl⟩
theorem chk19 : k0_chk19 (k0_pay138 k0_pay183) := ⟨lane_lt 2 _ rfl, lane_lt 2 _ rfl⟩
theorem chk20 : k0_chk20 (k0_pay139 k0_pay183) := ⟨lane_lt 3 _ rfl, lane_lt 3 _ rfl⟩
theorem chk21 : k0_chk21 (k0_pay140 k0_pay183) := ⟨lane_lt 4 _ rfl, lane_lt 4 _ rfl⟩
theorem chk22 : k0_chk22 (k0_pay141 k0_pay183) := ⟨lane_lt 5 _ rfl, lane_lt 5 _ rfl⟩
theorem chk23 : k0_chk23 (k0_pay142 k0_pay183) := ⟨lane_lt 6 _ rfl, lane_lt 6 _ rfl⟩
theorem chk24 : k0_chk24 (addi k0_pay183 k0_pay143) := ⟨lane_lt 7 _ rfl, lane_lt 7 _ rfl⟩

/-- The index vectors of the third loop over panels. -/
theorem lanes4 (k : Fin 8) (l : S16.Idx) : ((![k0_pay136 k0_pay183, k0_pay137 k0_pay183, k0_pay138 k0_pay183, k0_pay139 k0_pay183, k0_pay140 k0_pay183, k0_pay141 k0_pay183, k0_pay142 k0_pay183, addi k0_pay183 k0_pay143] : Fin 8 → IVec S16 32) k l).toNat = 8 * (l 0).val + k.val :=
  lane_val k _ (fin8 (P := fun k => (![k0_pay136 k0_pay183, k0_pay137 k0_pay183, k0_pay138 k0_pay183, k0_pay139 k0_pay183, k0_pay140 k0_pay183, k0_pay141 k0_pay183, k0_pay142 k0_pay183, addi k0_pay183 k0_pay143] : Fin 8 → IVec S16 32) k = addi k0_pay183 (broadcast S16 (BitVec.ofNat 32 k.val))) rfl rfl rfl rfl rfl rfl rfl rfl k) l

theorem chk25 : k0_chk25 (k0_pay185 k0_pay183) := ⟨lane_lt 0 _ rfl, lane_lt 0 _ rfl⟩
theorem chk26 : k0_chk26 (k0_pay186 k0_pay183) := ⟨lane_lt 1 _ rfl, lane_lt 1 _ rfl⟩
theorem chk27 : k0_chk27 (k0_pay187 k0_pay183) := ⟨lane_lt 2 _ rfl, lane_lt 2 _ rfl⟩
theorem chk28 : k0_chk28 (k0_pay188 k0_pay183) := ⟨lane_lt 3 _ rfl, lane_lt 3 _ rfl⟩
theorem chk29 : k0_chk29 (k0_pay189 k0_pay183) := ⟨lane_lt 4 _ rfl, lane_lt 4 _ rfl⟩
theorem chk30 : k0_chk30 (k0_pay190 k0_pay183) := ⟨lane_lt 5 _ rfl, lane_lt 5 _ rfl⟩
theorem chk31 : k0_chk31 (k0_pay191 k0_pay183) := ⟨lane_lt 6 _ rfl, lane_lt 6 _ rfl⟩
theorem chk32 : k0_chk32 (k0_pay192 k0_pay183) := ⟨lane_lt 7 _ rfl, lane_lt 7 _ rfl⟩

/-- The index vectors of the last loop over panels. -/
theorem lanes5 (k : Fin 8) (l : S16.Idx) : ((![k0_pay185 k0_pay183, k0_pay186 k0_pay183, k0_pay187 k0_pay183, k0_pay188 k0_pay183, k0_pay189 k0_pay183, k0_pay190 k0_pay183, k0_pay191 k0_pay183, k0_pay192 k0_pay183] : Fin 8 → IVec S16 32) k l).toNat = 8 * (l 0).val + k.val :=
  lane_val k _ (fin8 (P := fun k => (![k0_pay185 k0_pay183, k0_pay186 k0_pay183, k0_pay187 k0_pay183, k0_pay188 k0_pay183, k0_pay189 k0_pay183, k0_pay190 k0_pay183, k0_pay191 k0_pay183, k0_pay192 k0_pay183] : Fin 8 → IVec S16 32) k = addi k0_pay183 (broadcast S16 (BitVec.ofNat 32 k.val))) rfl rfl rfl rfl rfl rfl rfl rfl k) l

variable {d : Dev nD} {L : grid0.Coords} {fx : Buf (Elt F) (xLoc d)} {fs : Buf (Elt F) (sLoc d)} {G fo : Buf (Elt F) (oLoc d)}
variable {q : Fin 3 → PosShare TreeShare} {O : CellTallies nD τ sig (HIx 1)} {W : Waits sig (HIx 1)}

/-- What follows a test follows each of its branches. -/
theorem bind_of_dite {E : Type → Type _} {P : Prop} [Decidable P] {α β : Type} (a : P → Prog E α) (b : ¬P → Prog E α) (k : α → Prog E β) :
    (dite P a b >>= k) = dite P (fun h => a h >>= k) (fun h => b h >>= k) := by
  split <;> rfl

/-- A check that holds is passed. -/
theorem wp_check {P : Prop} {dec : Decidable P} (h : P) {β : Type} {kk : PLift P → Prog (TpuEff nD τ sig (Elt F) Λ₀ (thr d L).2) β} {Q : β → sProp 𝕄} :
    wp frame (wpE (defs₀ (F := F)) 𝒱₀ (thr d L) none) Set.univ (kk ⟨h⟩) Q ⊢ wp frame (wpE (defs₀ (F := F)) 𝒱₀ (thr d L) none) Set.univ (Prog.lift (TpuEff.assume P dec) >>= kk) Q :=
  Entails.of_eq (wp_assume_of _ _ _ _ h).symm

/-! ## The result, chunk by chunk -/

/-- The chunks of the result not yet on their way: those from `n` on. -/
def Todo (d : Dev nD) (L : grid0.Coords) (fo : Buf (Elt F) (oLoc d)) (n : Nat) : sProp 𝕄 :=
  bigSep (Finset.Ico n 64) fun c => (oLoc d ↦[oSet L c]{fullShare} fo)

/-- The chunks of the result that are written: those below `n`. -/
def Written (d : Dev nD) (L : grid0.Coords) (G : Buf (Elt F) (oLoc d)) (n : Nat) : sProp 𝕄 :=
  bigSep (Finset.range n) fun c => (oLoc d ↦[oSet L c]{fullShare} G)

theorem todo_next {n : Nat} (h : n < 64) : Todo d L fo n ⊢ iprop((oLoc d ↦[oSet L n]{fullShare} fo) ∗ Todo d L fo (n + 1)) := by
  unfold Todo
  rw [Idealize.SL.BI.bigSep_Ico_succ_bot h]

theorem written_next {n : Nat} : iprop(Written d L G n ∗ (oLoc d ↦[oSet L n]{fullShare} G)) ⊢ Written d L G (n + 1) := by
  unfold Written
  rw [Finset.range_add_one, SparseCore.bigSep_insert' Finset.notMem_range_self]
  iintro ⟨H, Hn⟩
  isplitl [Hn] <;> iassumption

/-! ## The parts of the program -/

set_option maxHeartbeats 1000000 in
set_option maxRecDepth 65536 in
/-- The prologue: chunks 0 and 1 of the inputs on their way. -/
theorem wp_part25 {β : Type} {kk : _ → Prog (TpuEff nD τ sig (Elt F) Λ₀ (thr d L).2) β} {Q : β → sProp 𝕄} :
    iprop(Idle d L fx fs sB0 oB0 cc0_scratch6.sem cc0_scratch9.sem cc0_scratch12.sem (q 0) ∗ Idle d L fx fs sB1 oB1 cc0_scratch7.sem cc0_scratch10.sem cc0_scratch13.sem (q 1))
      ⊢ iprop((∀ v2, iprop(Loading d L fx fs sB0 oB0 cc0_scratch6.sem cc0_scratch9.sem cc0_scratch12.sem (q 0) (0) ∗ Loading d L fx fs sB1 oB1 cc0_scratch7.sem cc0_scratch10.sem cc0_scratch13.sem (q 1) (1)) -∗ wp frame (wpE (defs₀ (F := F)) 𝒱₀ (thr d L) none) Set.univ (kk ⟨v2, k0_pay183, 0#32⟩) Q)
          -∗ wp frame (wpE (defs₀ (F := F)) 𝒱₀ (thr d L) none) Set.univ (k0_part25 (F := F) L xV (Memref.isWhole_whole _) sV (Memref.isWhole_whole _) oV (Memref.isWhole_whole _) sB0 (Memref.isWhole_whole _) sB1 (Memref.isWhole_whole _) sB2 (Memref.isWhole_whole _) oB0 (Memref.isWhole_whole _) oB1 (Memref.isWhole_whole _) oB2 (Memref.isWhole_whole _) cc0_scratch6 cc0_scratch7 cc0_scratch8 cc0_scratch9 cc0_scratch10 cc0_scratch11 cc0_scratch12 cc0_scratch13 cc0_scratch14 >>= kk) Q) := by
  rw [k0_part25_eq_skeleton]
  unfold k0_part25_skel
  simp only [bind_assoc, pure_bind]
  iintro ⟨HL0, HL1⟩ HK
  iapply (wp_load (sb := sB0) (ob := oB0) (by decide) (off1_ch L) (off1_ch L) (by decide) (by decide)) $$ HL0
  iintro HL0
  iapply (wp_load (sb := sB1) (ob := oB1) (by decide) (off2_0_ch L) (off2_0_ch L) (by decide) (by decide)) $$ HL1
  iintro HL1
  iapply HK
  isplitl [HL0] <;> iassumption

set_option maxHeartbeats 1000000 in
set_option maxRecDepth 65536 in
/-- Chunk `3 t` of the inputs arrives. -/
theorem wp_part16 {v2 c0 c1 : BitVec 32} {t : Fin k0_t1_loop.trips} {β : Type} {kk : _ → Prog (TpuEff nD τ sig (Elt F) Λ₀ (thr d L).2) β} {Q : β → sProp 𝕄} :
    iprop(Loading d L fx fs sB0 oB0 cc0_scratch6.sem cc0_scratch9.sem cc0_scratch12.sem (q 0) (3 * t.val) ∗ Ow (F := F) d L O W)
      ⊢ iprop((∀ a20 v91, iprop(Ready d L fx fs sB0 oB0 cc0_scratch6.sem cc0_scratch9.sem cc0_scratch12.sem (q 0) (3 * t.val) ∗ Ow (F := F) d L O W) -∗ wp frame (wpE (defs₀ (F := F)) 𝒱₀ (thr d L) none) Set.univ (kk ⟨a20, v91, k0_pay118 k0_pay183, chk1, k0_pay119 k0_pay183, chk2, k0_pay120 k0_pay183, chk3, k0_pay121 k0_pay183, chk4, k0_pay122 k0_pay183, chk5, k0_pay123 k0_pay183, chk6, k0_pay124 k0_pay183, chk7, k0_pay125 k0_pay183, chk8⟩) Q)
          -∗ wp frame (wpE (defs₀ (F := F)) 𝒱₀ (thr d L) none) Set.univ (k0_part16 (F := F) L xV (Memref.isWhole_whole _) sV (Memref.isWhole_whole _) oV (Memref.isWhole_whole _) sB0 (Memref.isWhole_whole _) sB1 (Memref.isWhole_whole _) sB2 (Memref.isWhole_whole _) oB0 (Memref.isWhole_whole _) oB1 (Memref.isWhole_whole _) oB2 (Memref.isWhole_whole _) cc0_scratch6 cc0_scratch7 cc0_scratch8 cc0_scratch9 cc0_scratch10 cc0_scratch11 cc0_scratch12 cc0_scratch13 cc0_scratch14 v2 k0_pay183 c0 c1 t >>= kk) Q) := by
  rw [k0_part16_eq_skeleton]
  unfold k0_part16_skel
  simp only [bind_assoc, pure_bind]
  iintro ⟨HL0, HO⟩ HK
  iapply (wp_arrive (sb := sB0) (ob := oB0)) $$ [HL0 HO]
  · isplitl [HL0] <;> iassumption
  iintro ⟨HL0, HO⟩
  iapply (wp_check chk1)
  iapply (wp_check chk2)
  iapply (wp_check chk3)
  iapply (wp_check chk4)
  iapply (wp_check chk5)
  iapply (wp_check chk6)
  iapply (wp_check chk7)
  iapply (wp_check chk8)
  iapply HK
  isplitl [HL0] <;> iassumption

set_option maxHeartbeats 1000000 in
set_option maxRecDepth 65536 in
/-- Chunk `3 t` computed and on its way out; chunk `3 t + 2` on its way in; chunk `3 t + 1` arrives. -/
theorem wp_part17 {t : Fin k0_t1_loop.trips} {v2 a20 v91 : BitVec 32} (hG : GoodOn d L fx fs G) {β : Type} {kk : _ → Prog (TpuEff nD τ sig (Elt F) Λ₀ (thr d L).2) β} {Q : β → sProp 𝕄} :
    iprop(Ready d L fx fs sB0 oB0 cc0_scratch6.sem cc0_scratch9.sem cc0_scratch12.sem (q 0) (3 * t.val) ∗ Loading d L fx fs sB1 oB1 cc0_scratch7.sem cc0_scratch10.sem cc0_scratch13.sem (q 1) (3 * t.val + 1) ∗ (if t.val = 0 then Idle d L fx fs sB2 oB2 cc0_scratch8.sem cc0_scratch11.sem cc0_scratch14.sem (q 2) else Storing d L fx fs G sB2 oB2 cc0_scratch8.sem cc0_scratch11.sem cc0_scratch14.sem (q 2) (3 * t.val - 1)) ∗ Todo d L fo (3 * t.val) ∗ Written d L G (3 * t.val - 1) ∗ Ow (F := F) d L O W)
      ⊢ iprop((∀ v140, iprop(Storing d L fx fs G sB0 oB0 cc0_scratch6.sem cc0_scratch9.sem cc0_scratch12.sem (q 0) (3 * t.val) ∗ Ready d L fx fs sB1 oB1 cc0_scratch7.sem cc0_scratch10.sem cc0_scratch13.sem (q 1) (3 * t.val + 1) ∗ Loading d L fx fs sB2 oB2 cc0_scratch8.sem cc0_scratch11.sem cc0_scratch14.sem (q 2) (3 * t.val + 2) ∗ Todo d L fo (3 * t.val + 1) ∗ Written d L G (3 * t.val) ∗ Ow (F := F) d L O W) -∗ wp frame (wpE (defs₀ (F := F)) 𝒱₀ (thr d L) none) Set.univ (kk ⟨v140, 0#32⟩) Q)
          -∗ wp frame (wpE (defs₀ (F := F)) 𝒱₀ (thr d L) none) Set.univ (k0_part17 (F := F) L xV (Memref.isWhole_whole _) sV (Memref.isWhole_whole _) oV (Memref.isWhole_whole _) sB0 (Memref.isWhole_whole _) sB1 (Memref.isWhole_whole _) sB2 (Memref.isWhole_whole _) oB0 (Memref.isWhole_whole _) oB1 (Memref.isWhole_whole _) oB2 (Memref.isWhole_whole _) cc0_scratch6 cc0_scratch7 cc0_scratch8 cc0_scratch9 cc0_scratch10 cc0_scratch11 cc0_scratch12 cc0_scratch13 cc0_scratch14 v2 t a20 v91 (k0_pay118 k0_pay183) chk1 (k0_pay119 k0_pay183) chk2 (k0_pay120 k0_pay183) chk3 (k0_pay121 k0_pay183) chk4 (k0_pay122 k0_pay183) chk5 (k0_pay123 k0_pay183) chk6 (k0_pay124 k0_pay183) chk7 (k0_pay125 k0_pay183) chk8 >>= kk) Q) := by
  have ht : t.val < 21 := t1_trips ▸ t.isLt
  rw [k0_part17_eq_skeleton]
  unfold k0_part17_skel
  rw [dif_pos (cond1_true t), t2_loop_eq]
  by_cases h0 : t.val = 0
  · rw [dif_neg (fun h => absurd ((cond2_iff t).1 h) (by omega)), if_pos h0]
    simp only [bind_assoc, pure_bind]
    iintro ⟨HL0, HL1, HL2, HT, HW, HO⟩ HK
    iapply (wp_compute (sb := sB0) (ob := oB0) lanes2) $$ HL0
    iintro HL0
    ihave HT' := (todo_next (by omega)) $$ HT
    icases HT' with ⟨Ho, HT⟩
    iapply (wp_store (sb := sB0) (ob := oB0) hG (by omega) (off13_ch L t)) $$ [HL0 Ho]
    · isplitl [HL0] <;> iassumption
    iintro HL0
    iapply (wp_load (sb := sB2) (ob := oB2) (by omega) (off15_ch L t) (off15_ch L t) (by decide) (by decide)) $$ HL2
    iintro HL2
    iapply (wp_arrive (sb := sB1) (ob := oB1)) $$ [HL1 HO]
    · isplitl [HL1] <;> iassumption
    iintro ⟨HL1, HO⟩
    iapply HK
    isplitl [HL0]; · iexact HL0
    isplitl [HL1]; · iexact HL1
    isplitl [HL2]; · iexact HL2
    isplitl [HT]; · iexact HT
    isplitl [HW]; · iapply (Entails.of_eq (congrArg (Written d L G) (by omega))) $$ HW
    iexact HO
  · rw [dif_pos ((cond2_iff t).2 (by omega)), if_neg h0]
    simp only [bind_assoc, pure_bind]
    iintro ⟨HL0, HL1, HL2, HT, HW, HO⟩ HK
    iapply (wp_compute (sb := sB0) (ob := oB0) lanes2) $$ HL0
    iintro HL0
    ihave HT' := (todo_next (by omega)) $$ HT
    icases HT' with ⟨Ho, HT⟩
    iapply (wp_store (sb := sB0) (ob := oB0) hG (by omega) (off13_ch L t)) $$ [HL0 Ho]
    · isplitl [HL0] <;> iassumption
    iintro HL0
    iapply (wp_free (sb := sB2) (ob := oB2)) $$ [HL2 HO]
    · isplitl [HL2] <;> iassumption
    iintro ⟨HL2, Ho, HO⟩
    ihave HW := written_next $$ [HW Ho]
    · isplitl [HW] <;> iassumption
    iapply (wp_load (sb := sB2) (ob := oB2) (by omega) (off15_ch L t) (off15_ch L t) (by decide) (by decide)) $$ HL2
    iintro HL2
    iapply (wp_arrive (sb := sB1) (ob := oB1)) $$ [HL1 HO]
    · isplitl [HL1] <;> iassumption
    iintro ⟨HL1, HO⟩
    iapply HK
    isplitl [HL0]; · iexact HL0
    isplitl [HL1]; · iexact HL1
    isplitl [HL2]; · iexact HL2
    isplitl [HT]; · iexact HT
    isplitl [HW]; · iapply (Entails.of_eq (congrArg (Written d L G) (by omega))) $$ HW
    iexact HO

set_option maxHeartbeats 1000000 in
set_option maxRecDepth 65536 in
/-- Chunk `3 t + 1` computed and on its way out. -/
theorem wp_part18 {t : Fin k0_t1_loop.trips} {v2 v140 : BitVec 32} (hG : GoodOn d L fx fs G) {β : Type} {kk : _ → Prog (TpuEff nD τ sig (Elt F) Λ₀ (thr d L).2) β} {Q : β → sProp 𝕄} :
    iprop(Ready d L fx fs sB1 oB1 cc0_scratch7.sem cc0_scratch10.sem cc0_scratch13.sem (q 1) (3 * t.val + 1) ∗ Todo d L fo (3 * t.val + 1))
      ⊢ iprop((iprop(Storing d L fx fs G sB1 oB1 cc0_scratch7.sem cc0_scratch10.sem cc0_scratch13.sem (q 1) (3 * t.val + 1) ∗ Todo d L fo (3 * t.val + 2)) -∗ wp frame (wpE (defs₀ (F := F)) 𝒱₀ (thr d L) none) Set.univ (kk PUnit.unit) Q)
          -∗ wp frame (wpE (defs₀ (F := F)) 𝒱₀ (thr d L) none) Set.univ (k0_part18 (F := F) L xV (Memref.isWhole_whole _) sV (Memref.isWhole_whole _) oV (Memref.isWhole_whole _) sB0 (Memref.isWhole_whole _) sB1 (Memref.isWhole_whole _) sB2 (Memref.isWhole_whole _) oB0 (Memref.isWhole_whole _) oB1 (Memref.isWhole_whole _) oB2 (Memref.isWhole_whole _) cc0_scratch6 cc0_scratch7 cc0_scratch8 cc0_scratch9 cc0_scratch10 cc0_scratch11 cc0_scratch12 cc0_scratch13 cc0_scratch14 v2 k0_pay183 t v140 0#32 >>= kk) Q) := by
  have ht : t.val < 21 := t1_trips ▸ t.isLt
  rw [k0_part18_eq_skeleton]
  unfold k0_part18_skel
  simp only [bind_assoc, pure_bind]
  iintro ⟨HL1, HT⟩ HK
  iapply (wp_check chk9)
  iapply (wp_check chk10)
  iapply (wp_check chk11)
  iapply (wp_check chk12)
  iapply (wp_check chk13)
  iapply (wp_check chk14)
  iapply (wp_check chk15)
  iapply (wp_check chk16)
  rw [t3_loop_eq]
  iapply (wp_compute (sb := sB1) (ob := oB1) lanes3) $$ HL1
  iintro HL1
  ihave HT' := (todo_next (by omega)) $$ HT
  icases HT' with ⟨Ho, HT⟩
  iapply (wp_store (sb := sB1) (ob := oB1) hG (by omega) (off26_1_ch L t)) $$ [HL1 Ho]
  · isplitl [HL1] <;> iassumption
  iintro HL1
  iapply HK
  isplitl [HL1] <;> iassumption

set_option maxHeartbeats 1000000 in
set_option maxRecDepth 65536 in
/-- Chunk `3 t` is written; chunk `3 t + 3` on its way in; chunk `3 t + 2` arrives. -/
theorem wp_part19 {t : Fin k0_t1_loop.trips} {v2 a20 v140 : BitVec 32} {β : Type} {kk : _ → Prog (TpuEff nD τ sig (Elt F) Λ₀ (thr d L).2) β} {Q : β → sProp 𝕄} :
    iprop(Storing d L fx fs G sB0 oB0 cc0_scratch6.sem cc0_scratch9.sem cc0_scratch12.sem (q 0) (3 * t.val) ∗ Loading d L fx fs sB2 oB2 cc0_scratch8.sem cc0_scratch11.sem cc0_scratch14.sem (q 2) (3 * t.val + 2) ∗ Written d L G (3 * t.val) ∗ Ow (F := F) d L O W)
      ⊢ iprop((∀ v189, iprop(Loading d L fx fs sB0 oB0 cc0_scratch6.sem cc0_scratch9.sem cc0_scratch12.sem (q 0) (3 * t.val + 3) ∗ Ready d L fx fs sB2 oB2 cc0_scratch8.sem cc0_scratch11.sem cc0_scratch14.sem (q 2) (3 * t.val + 2) ∗ Written d L G (3 * t.val + 1) ∗ Ow (F := F) d L O W) -∗ wp frame (wpE (defs₀ (F := F)) 𝒱₀ (thr d L) none) Set.univ (kk ⟨v189, k0_pay136 k0_pay183, chk17, k0_pay137 k0_pay183, chk18, k0_pay138 k0_pay183, chk19, k0_pay139 k0_pay183, chk20, k0_pay140 k0_pay183, chk21, k0_pay141 k0_pay183, chk22, k0_pay142 k0_pay183, chk23, k0_pay143⟩) Q)
          -∗ wp frame (wpE (defs₀ (F := F)) 𝒱₀ (thr d L) none) Set.univ (k0_part19 (F := F) L xV (Memref.isWhole_whole _) sV (Memref.isWhole_whole _) oV (Memref.isWhole_whole _) sB0 (Memref.isWhole_whole _) sB1 (Memref.isWhole_whole _) sB2 (Memref.isWhole_whole _) oB0 (Memref.isWhole_whole _) oB1 (Memref.isWhole_whole _) oB2 (Memref.isWhole_whole _) cc0_scratch6 cc0_scratch7 cc0_scratch8 cc0_scratch9 cc0_scratch10 cc0_scratch11 cc0_scratch12 cc0_scratch13 cc0_scratch14 v2 k0_pay183 t a20 v140 >>= kk) Q) := by
  have ht : t.val < 21 := t1_trips ▸ t.isLt
  rw [k0_part19_eq_skeleton]
  unfold k0_part19_skel
  rw [dif_pos (cond3_true t), dif_pos (cond4_true t)]
  simp only [bind_assoc, pure_bind]
  iintro ⟨HL0, HL2, HW, HO⟩ HK
  iapply (wp_free (sb := sB0) (ob := oB0)) $$ [HL0 HO]
  · isplitl [HL0] <;> iassumption
  iintro ⟨HL0, Ho, HO⟩
  ihave HW := written_next $$ [HW Ho]
  · isplitl [HW] <;> iassumption
  iapply (wp_load (sb := sB0) (ob := oB0) (by omega) (off28_ch L t) (off28_ch L t) (by decide) (by decide)) $$ HL0
  iintro HL0
  iapply (wp_arrive (sb := sB2) (ob := oB2)) $$ [HL2 HO]
  · isplitl [HL2] <;> iassumption
  iintro ⟨HL2, HO⟩
  iapply (wp_check chk17)
  iapply (wp_check chk18)
  iapply (wp_check chk19)
  iapply (wp_check chk20)
  iapply (wp_check chk21)
  iapply (wp_check chk22)
  iapply (wp_check chk23)
  iapply HK
  isplitl [HL0]; · iexact HL0
  isplitl [HL2]; · iexact HL2
  isplitl [HW] <;> iassumption

/-! ## The loop over triples of chunks -/

/-- Before trip `k` (and after the last trip, at `k = 21`): chunk `3 k` is on its way in, chunk `3 k + 1` too (after the
last trip chunk `61` is on its way out), chunk `3 k - 1` is on its way out, and the chunks before are written. -/
def Trip (d : Dev nD) (L : grid0.Coords) (fx : Buf (Elt F) (xLoc d)) (fs : Buf (Elt F) (sLoc d)) (G fo : Buf (Elt F) (oLoc d))
    (q : Fin 3 → PosShare TreeShare) (O : CellTallies nD τ sig (HIx 1)) (W : Waits sig (HIx 1)) (k : Nat) : sProp 𝕄 :=
  iprop(Loading d L fx fs sB0 oB0 cc0_scratch6.sem cc0_scratch9.sem cc0_scratch12.sem (q 0) (3 * k)
    ∗ (if k < 21 then Loading d L fx fs sB1 oB1 cc0_scratch7.sem cc0_scratch10.sem cc0_scratch13.sem (q 1) (3 * k + 1) else Storing d L fx fs G sB1 oB1 cc0_scratch7.sem cc0_scratch10.sem cc0_scratch13.sem (q 1) (61))
    ∗ (if k = 0 then Idle d L fx fs sB2 oB2 cc0_scratch8.sem cc0_scratch11.sem cc0_scratch14.sem (q 2) else Storing d L fx fs G sB2 oB2 cc0_scratch8.sem cc0_scratch11.sem cc0_scratch14.sem (q 2) (3 * k - 1))
    ∗ Todo d L fo (3 * k) ∗ Written d L G (if k < 21 then 3 * k - 1 else 61) ∗ Ow (F := F) d L O W)

theorem trip_eq {k : Nat} (hk : k < 21) : Trip d L fx fs G fo q O W k = iprop(Loading d L fx fs sB0 oB0 cc0_scratch6.sem cc0_scratch9.sem cc0_scratch12.sem (q 0) (3 * k)
    ∗ Loading d L fx fs sB1 oB1 cc0_scratch7.sem cc0_scratch10.sem cc0_scratch13.sem (q 1) (3 * k + 1)
    ∗ (if k = 0 then Idle d L fx fs sB2 oB2 cc0_scratch8.sem cc0_scratch11.sem cc0_scratch14.sem (q 2) else Storing d L fx fs G sB2 oB2 cc0_scratch8.sem cc0_scratch11.sem cc0_scratch14.sem (q 2) (3 * k - 1))
    ∗ Todo d L fo (3 * k) ∗ Written d L G (3 * k - 1) ∗ Ow (F := F) d L O W) := by
  unfold Trip
  rw [if_pos hk, if_pos hk]

theorem trip_succ {k : Nat} (hk : k < 20) : Trip d L fx fs G fo q O W (k + 1) = iprop(Loading d L fx fs sB0 oB0 cc0_scratch6.sem cc0_scratch9.sem cc0_scratch12.sem (q 0) (3 * k + 3)
    ∗ Loading d L fx fs sB1 oB1 cc0_scratch7.sem cc0_scratch10.sem cc0_scratch13.sem (q 1) (3 * k + 4) ∗ Storing d L fx fs G sB2 oB2 cc0_scratch8.sem cc0_scratch11.sem cc0_scratch14.sem (q 2) (3 * k + 2)
    ∗ Todo d L fo (3 * k + 3) ∗ Written d L G (3 * k + 2) ∗ Ow (F := F) d L O W) := by
  unfold Trip
  rw [if_pos (show k + 1 < 21 by omega), if_pos (show k + 1 < 21 by omega), if_neg (show ¬ k + 1 = 0 by omega)]
  rfl

theorem trip_last {k : Nat} (hk : k = 20) : Trip d L fx fs G fo q O W (k + 1) = iprop(Loading d L fx fs sB0 oB0 cc0_scratch6.sem cc0_scratch9.sem cc0_scratch12.sem (q 0) (3 * k + 3)
    ∗ Storing d L fx fs G sB1 oB1 cc0_scratch7.sem cc0_scratch10.sem cc0_scratch13.sem (q 1) (3 * k + 1) ∗ Storing d L fx fs G sB2 oB2 cc0_scratch8.sem cc0_scratch11.sem cc0_scratch14.sem (q 2) (3 * k + 2) ∗ Todo d L fo (3 * k + 3) ∗ Written d L G (3 * k + 1) ∗ Ow (F := F) d L O W) := by
  subst hk
  unfold Trip
  rw [if_neg (by decide), if_neg (by decide), if_neg (by decide)]

set_option maxHeartbeats 1000000 in
set_option maxRecDepth 65536 in
/-- One trip: three chunks computed. -/
theorem wp_trip (hG : GoodOn d L fx fs G) {v2 c0 : BitVec 32} (t : Fin k0_t1_loop.trips) :
    Trip d L fx fs G fo q O W t.val
      ⊢ wp frame (wpE (defs₀ (F := F)) 𝒱₀ (thr d L) none) Set.univ (k0_t1_body (F := F) L xV (Memref.isWhole_whole _) sV (Memref.isWhole_whole _) oV (Memref.isWhole_whole _) sB0 (Memref.isWhole_whole _) sB1 (Memref.isWhole_whole _) sB2 (Memref.isWhole_whole _) oB0 (Memref.isWhole_whole _) oB1 (Memref.isWhole_whole _) oB2 (Memref.isWhole_whole _) cc0_scratch6 cc0_scratch7 cc0_scratch8 cc0_scratch9 cc0_scratch10 cc0_scratch11 cc0_scratch12 cc0_scratch13 cc0_scratch14 v2 k0_pay183 c0 t ()) fun _ => Trip d L fx fs G fo q O W (t.val + 1) := by
  have ht : t.val < 21 := t1_trips ▸ t.isLt
  unfold k0_t1_body
  by_cases h0 : t.val < 20
  · rw [trip_eq ht, trip_succ h0, dif_pos ((cond5_iff t).2 h0), dif_pos (cond6_true t)]
    simp only [bind_assoc, pure_bind]
    iintro ⟨HL0, HL1, HL2, HT, HW, HO⟩
    iapply (wp_part16 (q := q)) $$ [HL0 HO]
    · isplitl [HL0] <;> iassumption
    iintro %a20 %v91 ⟨HL0, HO⟩
    iapply (wp_part17 (q := q) (fo := fo) hG) $$ [HL0 HL1 HL2 HT HW HO]
    · isplitl [HL0]; · iexact HL0
      isplitl [HL1]; · iexact HL1
      isplitl [HL2]; · iexact HL2
      isplitl [HT]; · iexact HT
      isplitl [HW] <;> iassumption
    iintro %v140 ⟨HL0, HL1, HL2, HT, HW, HO⟩
    iapply (wp_part18 (q := q) (fo := fo) hG) $$ [HL1 HT]
    · isplitl [HL1] <;> iassumption
    iintro ⟨HL1, HT⟩
    iapply (wp_part19 (q := q)) $$ [HL0 HL2 HW HO]
    · isplitl [HL0]; · iexact HL0
      isplitl [HL2]; · iexact HL2
      isplitl [HW] <;> iassumption
    iintro %v189 ⟨HL0, HL2, HW, HO⟩
    iapply (wp_check chk24)
    rw [t4_loop_eq]
    iapply (wp_compute (sb := sB2) (ob := oB2) lanes4) $$ HL2
    iintro HL2
    ihave HT' := (todo_next (by omega)) $$ HT
    icases HT' with ⟨Ho, HT⟩
    iapply (wp_store (sb := sB2) (ob := oB2) hG (by omega) (off38_ch L t)) $$ [HL2 Ho]
    · isplitl [HL2] <;> iassumption
    iintro HL2
    iapply (wp_free (sb := sB1) (ob := oB1)) $$ [HL1 HO]
    · isplitl [HL1] <;> iassumption
    iintro ⟨HL1, Ho, HO⟩
    ihave HW := written_next $$ [HW Ho]
    · isplitl [HW] <;> iassumption
    iapply (wp_load (sb := sB1) (ob := oB1) (by omega) (off40_ch L t h0) (off40_ch L t h0) (by decide) (by decide)) $$ HL1
    iintro HL1
    rw [wp_pure]
    imodintro
    isplitl [HL0]; · iexact HL0
    isplitl [HL1]; · iexact HL1
    isplitl [HL2]; · iexact HL2
    isplitl [HT]; · iexact HT
    isplitl [HW] <;> iassumption
  · rw [trip_eq ht, trip_last (show t.val = 20 by omega), dif_neg (fun h => h0 ((cond5_iff t).1 h))]
    simp only [bind_assoc, pure_bind]
    iintro ⟨HL0, HL1, HL2, HT, HW, HO⟩
    iapply (wp_part16 (q := q)) $$ [HL0 HO]
    · isplitl [HL0] <;> iassumption
    iintro %a20 %v91 ⟨HL0, HO⟩
    iapply (wp_part17 (q := q) (fo := fo) hG) $$ [HL0 HL1 HL2 HT HW HO]
    · isplitl [HL0]; · iexact HL0
      isplitl [HL1]; · iexact HL1
      isplitl [HL2]; · iexact HL2
      isplitl [HT]; · iexact HT
      isplitl [HW] <;> iassumption
    iintro %v140 ⟨HL0, HL1, HL2, HT, HW, HO⟩
    iapply (wp_part18 (q := q) (fo := fo) hG) $$ [HL1 HT]
    · isplitl [HL1] <;> iassumption
    iintro ⟨HL1, HT⟩
    iapply (wp_part19 (q := q)) $$ [HL0 HL2 HW HO]
    · isplitl [HL0]; · iexact HL0
      isplitl [HL2]; · iexact HL2
      isplitl [HW] <;> iassumption
    iintro %v189 ⟨HL0, HL2, HW, HO⟩
    iapply (wp_check chk24)
    rw [t4_loop_eq]
    iapply (wp_compute (sb := sB2) (ob := oB2) lanes4) $$ HL2
    iintro HL2
    ihave HT' := (todo_next (by omega)) $$ HT
    icases HT' with ⟨Ho, HT⟩
    iapply (wp_store (sb := sB2) (ob := oB2) hG (by omega) (off38_ch L t)) $$ [HL2 Ho]
    · isplitl [HL2] <;> iassumption
    iintro HL2
    rw [wp_pure]
    imodintro
    isplitl [HL0]; · iexact HL0
    isplitl [HL1]; · iexact HL1
    isplitl [HL2]; · iexact HL2
    isplitl [HT]; · iexact HT
    isplitl [HW] <;> iassumption

end Cert.Proof.Topk

end
-- ==== Proof.Body.lean ====
module

public import proofs.«01_k».proof.Proof.Parts

@[expose] public section

noncomputable section

namespace Cert.Proof.Topk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8192x4096 EltTy.f32)
local notation "sV" => (Memref.whole Cert.KernelIdeal.main_arg1_scv : Memref Cert.KernelIdeal.sig Kind.scVector Space.hbm Cert.KernelIdeal.S8192x4096 EltTy.f32)
local notation "oV" => (Memref.whole Cert.KernelIdeal.main_v0_scv : Memref Cert.KernelIdeal.sig Kind.scVector Space.hbm Cert.KernelIdeal.S8192x4096 EltTy.f32)
local notation "sB0" => (Memref.whole Cert.KernelIdeal.cc0_scratch0 : Memref Cert.KernelIdeal.sig Kind.scVector Space.vmem Cert.KernelIdeal.S8x2048 EltTy.f32)
local notation "sB1" => (Memref.whole Cert.KernelIdeal.cc0_scratch1 : Memref Cert.KernelIdeal.sig Kind.scVector Space.vmem Cert.KernelIdeal.S8x2048 EltTy.f32)
local notation "sB2" => (Memref.whole Cert.KernelIdeal.cc0_scratch2 : Memref Cert.KernelIdeal.sig Kind.scVector Space.vmem Cert.KernelIdeal.S8x2048 EltTy.f32)
local notation "oB0" => (Memref.whole Cert.KernelIdeal.cc0_scratch3 : Memref Cert.KernelIdeal.sig Kind.scVector Space.vmem Cert.KernelIdeal.S8x2048 EltTy.f32)
local notation "oB1" => (Memref.whole Cert.KernelIdeal.cc0_scratch4 : Memref Cert.KernelIdeal.sig Kind.scVector Space.vmem Cert.KernelIdeal.S8x2048 EltTy.f32)
local notation "oB2" => (Memref.whole Cert.KernelIdeal.cc0_scratch5 : Memref Cert.KernelIdeal.sig Kind.scVector Space.vmem Cert.KernelIdeal.S8x2048 EltTy.f32)

variable {d : Dev nD} {L : grid0.Coords} {fx : Buf (Elt F) (xLoc d)} {fs : Buf (Elt F) (sLoc d)} {G fo : Buf (Elt F) (oLoc d)}
variable {q : Fin 3 → PosShare TreeShare} {O : CellTallies nD τ sig (HIx 1)} {W : Waits sig (HIx 1)}

/-! ## The whole program of a task -/

theorem trip_zero : Trip d L fx fs G fo q O W 0 = iprop(Loading d L fx fs sB0 oB0 cc0_scratch6.sem cc0_scratch9.sem cc0_scratch12.sem (q 0) (0) ∗ Loading d L fx fs sB1 oB1 cc0_scratch7.sem cc0_scratch10.sem cc0_scratch13.sem (q 1) (1) ∗ Idle d L fx fs sB2 oB2 cc0_scratch8.sem cc0_scratch11.sem cc0_scratch14.sem (q 2)
    ∗ Todo d L fo 0 ∗ Written d L G 0 ∗ Ow (F := F) d L O W) := by
  unfold Trip
  rw [if_pos (show 0 < 21 by decide), if_pos (show 0 = 0 from rfl), if_pos (show 0 < 21 by decide)]

theorem trip_end : Trip d L fx fs G fo q O W (Scf.trips k0_t1_loop.lb k0_t1_loop.ub k0_t1_loop.st) = iprop(Loading d L fx fs sB0 oB0 cc0_scratch6.sem cc0_scratch9.sem cc0_scratch12.sem (q 0) (63) ∗ Storing d L fx fs G sB1 oB1 cc0_scratch7.sem cc0_scratch10.sem cc0_scratch13.sem (q 1) (61) ∗ Storing d L fx fs G sB2 oB2 cc0_scratch8.sem cc0_scratch11.sem cc0_scratch14.sem (q 2) (62)
    ∗ Todo d L fo 63 ∗ Written d L G 61 ∗ Ow (F := F) d L O W) :=
  (congrArg (Trip d L fx fs G fo q O W) t1_trips).trans (trip_last (k := 20) rfl)

set_option maxHeartbeats 1000000 in
set_option maxRecDepth 65536 in
/-- The loop over triples, and the last chunk of the inputs arrives. -/
theorem wp_part26 {v2 c0 : BitVec 32} (hG : GoodOn d L fx fs G) {β : Type} {kk : _ → Prog (TpuEff nD τ sig (Elt F) Λ₀ (thr d L).2) β} {Q : β → sProp 𝕄} :
    iprop(Trip d L fx fs G fo q O W 0)
      ⊢ iprop((iprop(Ready d L fx fs sB0 oB0 cc0_scratch6.sem cc0_scratch9.sem cc0_scratch12.sem (q 0) (63) ∗ Storing d L fx fs G sB1 oB1 cc0_scratch7.sem cc0_scratch10.sem cc0_scratch13.sem (q 1) (61) ∗ Storing d L fx fs G sB2 oB2 cc0_scratch8.sem cc0_scratch11.sem cc0_scratch14.sem (q 2) (62) ∗ Todo d L fo 63 ∗ Written d L G 61 ∗ Ow (F := F) d L O W) -∗ wp frame (wpE (defs₀ (F := F)) 𝒱₀ (thr d L) none) Set.univ (kk ⟨k0_pay185 k0_pay183, chk25, k0_pay186 k0_pay183, chk26, k0_pay187 k0_pay183, chk27, k0_pay188 k0_pay183, chk28, k0_pay189 k0_pay183, chk29, k0_pay190 k0_pay183, chk30, k0_pay191 k0_pay183, chk31, k0_pay192 k0_pay183⟩) Q)
          -∗ wp frame (wpE (defs₀ (F := F)) 𝒱₀ (thr d L) none) Set.univ (k0_part26 (F := F) L xV (Memref.isWhole_whole _) sV (Memref.isWhole_whole _) oV (Memref.isWhole_whole _) sB0 (Memref.isWhole_whole _) sB1 (Memref.isWhole_whole _) sB2 (Memref.isWhole_whole _) oB0 (Memref.isWhole_whole _) oB1 (Memref.isWhole_whole _) oB2 (Memref.isWhole_whole _) cc0_scratch6 cc0_scratch7 cc0_scratch8 cc0_scratch9 cc0_scratch10 cc0_scratch11 cc0_scratch12 cc0_scratch13 cc0_scratch14 v2 k0_pay183 c0 >>= kk) Q) := by
  rw [k0_part26_eq_skeleton]
  unfold k0_part26_skel
  simp only [bind_assoc, pure_bind]
  iintro H HK
  iapply (Scf.wp_for_bind frame (wpE (defs₀ (F := F)) 𝒱₀ (thr d L) none) Set.univ _ _ _ _ _ _
    (fun p _ => Trip d L fx fs G fo q O W p) (fun p _ => wp_trip hG p)) $$ [H]
  · iexact H
  iintro %acc H
  ihave H' := (Entails.of_eq trip_end) $$ H
  icases H' with ⟨HL0, HL1, HL2, HT, HW, HO⟩
  iapply (wp_arrive (sb := sB0) (ob := oB0)) $$ [HL0 HO]
  · isplitl [HL0] <;> iassumption
  iintro ⟨HL0, HO⟩
  iapply (wp_check chk25)
  iapply (wp_check chk26)
  iapply (wp_check chk27)
  iapply (wp_check chk28)
  iapply (wp_check chk29)
  iapply (wp_check chk30)
  iapply (wp_check chk31)
  iapply HK
  isplitl [HL0]; · iexact HL0
  isplitl [HL1]; · iexact HL1
  isplitl [HL2]; · iexact HL2
  isplitl [HT]; · iexact HT
  isplitl [HW] <;> iassumption

set_option maxHeartbeats 1000000 in
set_option maxRecDepth 65536 in
/-- The whole program but for the last wait. -/
theorem wp_part27 (hG : GoodOn d L fx fs G) {β : Type} {kk : _ → Prog (TpuEff nD τ sig (Elt F) Λ₀ (thr d L).2) β} {Q : β → sProp 𝕄} :
    iprop(Idle d L fx fs sB0 oB0 cc0_scratch6.sem cc0_scratch9.sem cc0_scratch12.sem (q 0) ∗ Idle d L fx fs sB1 oB1 cc0_scratch7.sem cc0_scratch10.sem cc0_scratch13.sem (q 1) ∗ Idle d L fx fs sB2 oB2 cc0_scratch8.sem cc0_scratch11.sem cc0_scratch14.sem (q 2) ∗ Todo d L fo 0 ∗ Ow (F := F) d L O W)
      ⊢ iprop((iprop(Storing d L fx fs G sB0 oB0 cc0_scratch6.sem cc0_scratch9.sem cc0_scratch12.sem (q 0) (63) ∗ Idle d L fx fs sB1 oB1 cc0_scratch7.sem cc0_scratch10.sem cc0_scratch13.sem (q 1) ∗ Idle d L fx fs sB2 oB2 cc0_scratch8.sem cc0_scratch11.sem cc0_scratch14.sem (q 2) ∗ Written d L G 63 ∗ Ow (F := F) d L O W) -∗ wp frame (wpE (defs₀ (F := F)) 𝒱₀ (thr d L) none) Set.univ (kk PUnit.unit) Q)
          -∗ wp frame (wpE (defs₀ (F := F)) 𝒱₀ (thr d L) none) Set.univ (k0_part27 (F := F) L xV (Memref.isWhole_whole _) sV (Memref.isWhole_whole _) oV (Memref.isWhole_whole _) sB0 (Memref.isWhole_whole _) sB1 (Memref.isWhole_whole _) sB2 (Memref.isWhole_whole _) oB0 (Memref.isWhole_whole _) oB1 (Memref.isWhole_whole _) oB2 (Memref.isWhole_whole _) cc0_scratch6 cc0_scratch7 cc0_scratch8 cc0_scratch9 cc0_scratch10 cc0_scratch11 cc0_scratch12 cc0_scratch13 cc0_scratch14 >>= kk) Q) := by
  rw [k0_part27_eq_skeleton]
  unfold k0_part27_skel
  simp only [bind_assoc, pure_bind]
  iintro ⟨HL0, HL1, HL2, HT, HO⟩ HK
  iapply (wp_part25 (q := q)) $$ [HL0 HL1]
  · isplitl [HL0] <;> iassumption
  iintro %v2 ⟨HL0, HL1⟩
  iapply (wp_part26 (q := q) (fo := fo) (W := W) (O := O) hG) $$ [HL0 HL1 HL2 HT HO]
  · rw [trip_zero]
    isplitl [HL0]; · iexact HL0
    isplitl [HL1]; · iexact HL1
    isplitl [HL2]; · iexact HL2
    isplitl [HT]; · iexact HT
    isplitr
    · unfold Written
      rw [Finset.range_zero, bigSep_empty]
      iempintro
    iexact HO
  iintro ⟨HL0, HL1, HL2, HT, HW, HO⟩
  iapply (wp_check chk32)
  rw [t5_loop_eq]
  iapply (wp_compute (sb := sB0) (ob := oB0) lanes5) $$ HL0
  iintro HL0
  ihave HT' := (todo_next (by decide)) $$ HT
  icases HT' with ⟨Ho, -⟩
  iapply (wp_store (sb := sB0) (ob := oB0) hG (by decide) (off50_31_ch L)) $$ [HL0 Ho]
  · isplitl [HL0] <;> iassumption
  iintro HL0
  iapply (wp_free (sb := sB1) (ob := oB1)) $$ [HL1 HO]
  · isplitl [HL1] <;> iassumption
  iintro ⟨HL1, Ho, HO⟩
  ihave HW := written_next $$ [HW Ho]
  · isplitl [HW] <;> iassumption
  iapply (wp_free (sb := sB2) (ob := oB2)) $$ [HL2 HO]
  · isplitl [HL2] <;> iassumption
  iintro ⟨HL2, Ho, HO⟩
  ihave HW := written_next $$ [HW Ho]
  · isplitl [HW] <;> iassumption
  iapply HK
  isplitl [HL0]; · iexact HL0
  isplitl [HL1]; · iexact HL1
  isplitl [HL2]; · iexact HL2
  isplitl [HW] <;> iassumption

set_option maxHeartbeats 1000000 in
set_option maxRecDepth 65536 in
/-- A task from idle slots and an untouched result writes all its 64 chunks of the result. -/
theorem wp_body (hG : GoodOn d L fx fs G) :
    iprop(Idle d L fx fs sB0 oB0 cc0_scratch6.sem cc0_scratch9.sem cc0_scratch12.sem (q 0) ∗ Idle d L fx fs sB1 oB1 cc0_scratch7.sem cc0_scratch10.sem cc0_scratch13.sem (q 1) ∗ Idle d L fx fs sB2 oB2 cc0_scratch8.sem cc0_scratch11.sem cc0_scratch14.sem (q 2) ∗ Todo d L fo 0 ∗ Ow (F := F) d L O W)
      ⊢ wp frame (wpE (defs₀ (F := F)) 𝒱₀ (thr d L) none) Set.univ (cc0__sc_body (F := F) L xV (Memref.isWhole_whole _) sV (Memref.isWhole_whole _) oV (Memref.isWhole_whole _) sB0 (Memref.isWhole_whole _) sB1 (Memref.isWhole_whole _) sB2 (Memref.isWhole_whole _) oB0 (Memref.isWhole_whole _) oB1 (Memref.isWhole_whole _) oB2 (Memref.isWhole_whole _) cc0_scratch6 cc0_scratch7 cc0_scratch8 cc0_scratch9 cc0_scratch10 cc0_scratch11 cc0_scratch12 cc0_scratch13 cc0_scratch14) fun _ =>
          iprop(Idle d L fx fs sB0 oB0 cc0_scratch6.sem cc0_scratch9.sem cc0_scratch12.sem (q 0) ∗ Idle d L fx fs sB1 oB1 cc0_scratch7.sem cc0_scratch10.sem cc0_scratch13.sem (q 1) ∗ Idle d L fx fs sB2 oB2 cc0_scratch8.sem cc0_scratch11.sem cc0_scratch14.sem (q 2) ∗ Written d L G 64 ∗ Ow (F := F) d L O W) := by
  rw [cc0__sc_body_eq_skeleton]
  unfold cc0__sc_body_skel
  simp only [bind_assoc, pure_bind]
  iintro H
  iapply (wp_part27 (q := q) (fo := fo) (W := W) (O := O) hG) $$ H
  iintro ⟨HL0, HL1, HL2, HW, HO⟩
  iapply (wp_free (sb := sB0) (ob := oB0)) $$ [HL0 HO]
  · isplitl [HL0] <;> iassumption
  iintro ⟨HL0, Ho, HO⟩
  ihave HW := written_next $$ [HW Ho]
  · isplitl [HW] <;> iassumption
  rw [wp_pure]
  imodintro
  isplitl [HL0]; · iexact HL0
  isplitl [HL1]; · iexact HL1
  isplitl [HL2]; · iexact HL2
  isplitl [HW] <;> iassumption

end Cert.Proof.Topk

end
-- ==== Proof.Task.lean ====
module

public import proofs.«01_k».proof.Proof.Body

@[expose] public section

noncomputable section

namespace Cert.Proof.Topk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8192x4096 EltTy.f32)
local notation "sV" => (Memref.whole Cert.KernelIdeal.main_arg1_scv : Memref Cert.KernelIdeal.sig Kind.scVector Space.hbm Cert.KernelIdeal.S8192x4096 EltTy.f32)
local notation "oV" => (Memref.whole Cert.KernelIdeal.main_v0_scv : Memref Cert.KernelIdeal.sig Kind.scVector Space.hbm Cert.KernelIdeal.S8192x4096 EltTy.f32)
local notation "sB0" => (Memref.whole Cert.KernelIdeal.cc0_scratch0 : Memref Cert.KernelIdeal.sig Kind.scVector Space.vmem Cert.KernelIdeal.S8x2048 EltTy.f32)
local notation "sB1" => (Memref.whole Cert.KernelIdeal.cc0_scratch1 : Memref Cert.KernelIdeal.sig Kind.scVector Space.vmem Cert.KernelIdeal.S8x2048 EltTy.f32)
local notation "sB2" => (Memref.whole Cert.KernelIdeal.cc0_scratch2 : Memref Cert.KernelIdeal.sig Kind.scVector Space.vmem Cert.KernelIdeal.S8x2048 EltTy.f32)
local notation "oB0" => (Memref.whole Cert.KernelIdeal.cc0_scratch3 : Memref Cert.KernelIdeal.sig Kind.scVector Space.vmem Cert.KernelIdeal.S8x2048 EltTy.f32)
local notation "oB1" => (Memref.whole Cert.KernelIdeal.cc0_scratch4 : Memref Cert.KernelIdeal.sig Kind.scVector Space.vmem Cert.KernelIdeal.S8x2048 EltTy.f32)
local notation "oB2" => (Memref.whole Cert.KernelIdeal.cc0_scratch5 : Memref Cert.KernelIdeal.sig Kind.scVector Space.vmem Cert.KernelIdeal.S8x2048 EltTy.f32)

/-! ## What the kernel computes -/

/-- The eight scores of the group of eight columns in which a position lies. -/
def group (S : S8192x4096.Idx → Elt F .f32) (z : S8192x4096.Idx) : Fin 8 → F .f32 :=
  fun k => S fun a => match a with
    | 0 => z 0
    | 1 => ⟨8 * ((z 1).val / 8) + k.val, by have h : (z 1).val < 4096 := (z 1).isLt; show _ < 4096; omega⟩

/-- A position's place in its group of eight columns. -/
def slot (z : S8192x4096.Idx) : Fin 8 := ⟨(z 1).val % 8, Nat.mod_lt _ (by decide)⟩

/-- The kernel's result: zero where the position is dropped by the scores of its group, and `x` elsewhere. -/
def sparse (X S : S8192x4096.Idx → Elt F .f32) : S8192x4096.Idx → Elt F .f32 :=
  fun z => if dropBit (group S z) (slot z) = 1 then zeroF else X z

/-- The positions of a chunk keep their groups of eight columns. -/
theorem cut_sparse (L : grid0.Coords) (c : Nat) (X S : S8192x4096.Idx → Elt F .f32) :
    cut L c (sparse X S) = chunkOut (cut L c S) (cut L c X) := by
  funext j
  have h1 : (j 1).val < 2048 := (j 1).isLt
  have hp : (pos L c j 1).val = c % 2 * 2048 + (j 1).val := rfl
  have hs : slot (pos L c j) = place j := Fin.ext (by
    show (pos L c j 1).val % 8 = (j 1).val % 8
    rw [hp]
    omega)
  have hg : group S (pos L c j) = grp (cut L c S) j := by
    funext k
    refine congrArg S (funext fun a => Fin.ext ?_)
    match a with
    | 0 => rfl
    | 1 =>
      show 8 * ((pos L c j 1).val / 8) + k.val = c % 2 * 2048 + (8 * ((j 1).val / 8) + k.val)
      rw [hp]
      omega
  show (if dropBit (group S (pos L c j)) (slot (pos L c j)) = 1 then zeroF else X (pos L c j))
    = if dropBit (grp (cut L c S) j) (place j) = 1 then zeroF else X (pos L c j)
  rw [hs, hg]

/-! ## What a task starts from and ends with -/

section Task

variable (d : Dev nD) (L : grid0.Coords) (fx : Buf (Elt F) (xLoc d)) (fs : Buf (Elt F) (sLoc d)) (fo : Buf (Elt F) (oLoc d))

theorem good (d : Dev nD) (L : grid0.Coords) (fx : Buf (Elt F) (xLoc d)) (fs : Buf (Elt F) (sLoc d)) : GoodOn d L fx fs (sparse fx fs) :=
  fun c _ => cut_sparse L c fx fs

/-- The share of the two inputs that a task reads by. -/
def tileShare (L : grid0.Coords) : PosShare TreeShare :=
  Transfers.dealOf (Transfers.dealOf fullShare Finset.univ (L 0)) Finset.univ (L 1)

/-- The share of the two inputs that one of the three slots of a task reads by. -/
def slotShare (L : grid0.Coords) (j : Fin 3) : PosShare TreeShare := Transfers.dealOf (tileShare L) Finset.univ j

/-- A task's start: its share of the inputs, its chunks of the result. -/
def TaskIn : sProp 𝕄 :=
  iprop((xLoc d ↦[Finset.univ]{tileShare L} fx) ∗ (sLoc d ↦[Finset.univ]{tileShare L} fs) ∗ Todo d L fo 0)

/-- A task's end: its share of the inputs, its chunks of the result holding what the kernel computes. -/
def TaskOut : sProp 𝕄 :=
  iprop((xLoc d ↦[Finset.univ]{tileShare L} fx) ∗ (sLoc d ↦[Finset.univ]{tileShare L} fs) ∗ Written d L (sparse fx fs) 64)

theorem bigSep_three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide),
    bigSep_singleton]

theorem bigSep_two (Φ : Fin 2 → sProp 𝕄) : bigSep Finset.univ Φ = iprop(Φ 0 ∗ Φ 1) := bigSep_fin_two Φ

/-- The tile's nine semaphores: for each slot those of its two copies in and its copy out. -/
def semOf (p : Fin 3 × Fin 3) : DmaSem sig :=
  (![![cc0_scratch6.sem, cc0_scratch9.sem, cc0_scratch12.sem], ![cc0_scratch7.sem, cc0_scratch10.sem, cc0_scratch13.sem],
    ![cc0_scratch8.sem, cc0_scratch11.sem, cc0_scratch14.sem]] : Fin 3 → Fin 3 → DmaSem sig) p.1 p.2

theorem semOf_injective : Function.Injective semOf := by decide
theorem semOf_scoped : ∀ p, (SemLoc.dma (semOf p) : SemLoc sig).isScoped .scVector = true := by decide

/-- The tile's six staging buffers: for each slot the scores' and the values'. -/
def bufOf (p : Fin 3 × Fin 2) : Ref sig .scVector :=
  (![![cc0_scratch0, cc0_scratch3], ![cc0_scratch1, cc0_scratch4], ![cc0_scratch2, cc0_scratch5]] : Fin 3 → Fin 2 → Ref sig .scVector) p.1 p.2

theorem bufOf_injective : Function.Injective bufOf := by decide

/-- The cells of those semaphores on the task's tile. -/
def cellOf : Fin 3 × Fin 3 ↪ GSem nD τ sig :=
  ⟨fun p => (thr d L, .dma (semOf p)), fun _ _ h => semOf_injective (SemLoc.dma.inj (Prod.mk.inj h).2)⟩

/-- The references of those buffers on the task's tile. -/
def refOf : Fin 3 × Fin 2 ↪ DevRef τ sig :=
  ⟨fun p => (thr d L).2.devRef (bufOf p), fun _ _ h => bufOf_injective (Proc.devRef_injective _ h)⟩

theorem cells_sub : Finset.univ.map (cellOf d L) ⊆ ownCells (thr d L) := by
  intro g hg
  obtain ⟨p, -, rfl⟩ := Finset.mem_map.1 hg
  exact mem_ownCells.2 ⟨rfl, semOf_scoped p⟩

theorem refs_sub : Finset.univ.map (refOf d L) ⊆ ownRefs (τ := τ) (sig := sig) (thr d L).2 := by
  intro g hg
  obtain ⟨p, -, rfl⟩ := Finset.mem_map.1 hg
  exact SparseCore.Cfg.mem_ownRefs_of_owner (ownedBy p)
where
  ownedBy : ∀ p, ((thr d L).2.devRef (bufOf p)).owner = .proc (thr d L).2 := by
    rintro ⟨i, j⟩
    fin_cases i <;> fin_cases j <;> rfl

/-- A slot's semaphores at zero. -/
def slotSems (j : Fin 3) : sProp 𝕄 := bigSep Finset.univ fun k : Fin 3 => semVal (thr d L, .dma (semOf (j, k))) 0

/-- A slot's buffers at some contents. -/
def slotBufs (j : Fin 3) : sProp 𝕄 := bigSep Finset.univ fun k : Fin 2 => iprop(∃ f, ((thr d L).loc (bufOf (j, k))) ↦{fullShare} f)

/-- What a tile has of semaphores and buffers beside the three slots'. -/
def restSems : sProp 𝕄 := bigSep (ownCells (thr d L) \ Finset.univ.map (cellOf d L)) fun g => semVal g 0
def restBufs : sProp 𝕄 := bigSep (ownRefs (thr d L).2 \ Finset.univ.map (refOf d L)) fun b => iprop(∃ f, ((d, b) : Loc nD τ sig) ↦{fullShare} f)

theorem ownSems0_slots : (ownSems0 (thr d L) : sProp 𝕄) = iprop((bigSep Finset.univ fun j => slotSems d L j) ∗ restSems d L) := by
  unfold SparseCore.Cfg.ownSems0
  rw [SparseCore.bigSep_sdiff_split' (cells_sub d L), bigSep_map, bigSep_univ_prod]
  rfl

theorem ownBufs_slots : (ownBufs (thr d L) : sProp 𝕄) = iprop((bigSep Finset.univ fun j => slotBufs d L j) ∗ restBufs d L) := by
  unfold SparseCore.Cfg.ownBufs
  rw [SparseCore.bigSep_sdiff_split' (refs_sub d L), bigSep_map, bigSep_univ_prod]
  rfl

/-- A staging buffer with some values is a buffer with some contents. -/
theorem holds_any {B : Memref sig .scVector .vmem S8x2048 .f32} (hB : B.view.set = Finset.univ) :
    (iprop(∃ Y, Holds d L B Y) : sProp 𝕄) ⊣⊢ iprop(∃ f, (B.view.loc (thr d L)) ↦{fullShare} f) := by
  unfold Holds
  rw [hB]
  constructor
  · iintro ⟨%Y, %f, -, H⟩
    iexists f
    iexact H
  · iintro ⟨%f, H⟩
    iexists _
    iexists f
    isplitr
    · ipureintro; rfl
    iexact H

theorem idle0 : (Idle d L fx fs sB0 oB0 cc0_scratch6.sem cc0_scratch9.sem cc0_scratch12.sem (slotShare L 0) : sProp 𝕄)
    ⊣⊢ iprop((xLoc d ↦[Finset.univ]{slotShare L 0} fx) ∗ (sLoc d ↦[Finset.univ]{slotShare L 0} fs) ∗ slotSems d L 0 ∗ slotBufs d L 0) := by
  unfold Idle Shares slotSems slotBufs
  rw [bigSep_three, bigSep_two, BI.Entails.antisymm (holds_any d L (B := sB0) (View.set_whole _)).1 (holds_any d L (B := sB0) (View.set_whole _)).2,
    BI.Entails.antisymm (holds_any d L (B := oB0) (View.set_whole _)).1 (holds_any d L (B := oB0) (View.set_whole _)).2]
  constructor
  · iintro ⟨⟨Hx, Hs, Ha, Hb⟩, Hu, Hv, Hc⟩
    isplitl [Hx]; · iexact Hx
    isplitl [Hs]; · iexact Hs
    isplitl [Ha Hb Hc]
    · isplitl [Ha]; · iexact Ha
      isplitl [Hb]; · iexact Hb
      iexact Hc
    isplitl [Hu]; · iexact Hu
    iexact Hv
  · iintro ⟨Hx, Hs, ⟨Ha, Hb, Hc⟩, Hu, Hv⟩
    isplitl [Hx Hs Ha Hb]
    · isplitl [Hx]; · iexact Hx
      isplitl [Hs]; · iexact Hs
      isplitl [Ha]; · iexact Ha
      iexact Hb
    isplitl [Hu]; · iexact Hu
    isplitl [Hv]; · iexact Hv
    iexact Hc

theorem idle1 : (Idle d L fx fs sB1 oB1 cc0_scratch7.sem cc0_scratch10.sem cc0_scratch13.sem (slotShare L 1) : sProp 𝕄)
    ⊣⊢ iprop((xLoc d ↦[Finset.univ]{slotShare L 1} fx) ∗ (sLoc d ↦[Finset.univ]{slotShare L 1} fs) ∗ slotSems d L 1 ∗ slotBufs d L 1) := by
  unfold Idle Shares slotSems slotBufs
  rw [bigSep_three, bigSep_two, BI.Entails.antisymm (holds_any d L (B := sB1) (View.set_whole _)).1 (holds_any d L (B := sB1) (View.set_whole _)).2,
    BI.Entails.antisymm (holds_any d L (B := oB1) (View.set_whole _)).1 (holds_any d L (B := oB1) (View.set_whole _)).2]
  constructor
  · iintro ⟨⟨Hx, Hs, Ha, Hb⟩, Hu, Hv, Hc⟩
    isplitl [Hx]; · iexact Hx
    isplitl [Hs]; · iexact Hs
    isplitl [Ha Hb Hc]
    · isplitl [Ha]; · iexact Ha
      isplitl [Hb]; · iexact Hb
      iexact Hc
    isplitl [Hu]; · iexact Hu
    iexact Hv
  · iintro ⟨Hx, Hs, ⟨Ha, Hb, Hc⟩, Hu, Hv⟩
    isplitl [Hx Hs Ha Hb]
    · isplitl [Hx]; · iexact Hx
      isplitl [Hs]; · iexact Hs
      isplitl [Ha]; · iexact Ha
      iexact Hb
    isplitl [Hu]; · iexact Hu
    isplitl [Hv]; · iexact Hv
    iexact Hc

theorem idle2 : (Idle d L fx fs sB2 oB2 cc0_scratch8.sem cc0_scratch11.sem cc0_scratch14.sem (slotShare L 2) : sProp 𝕄)
    ⊣⊢ iprop((xLoc d ↦[Finset.univ]{slotShare L 2} fx) ∗ (sLoc d ↦[Finset.univ]{slotShare L 2} fs) ∗ slotSems d L 2 ∗ slotBufs d L 2) := by
  unfold Idle Shares slotSems slotBufs
  rw [bigSep_three, bigSep_two, BI.Entails.antisymm (holds_any d L (B := sB2) (View.set_whole _)).1 (holds_any d L (B := sB2) (View.set_whole _)).2,
    BI.Entails.antisymm (holds_any d L (B := oB2) (View.set_whole _)).1 (holds_any d L (B := oB2) (View.set_whole _)).2]
  constructor
  · iintro ⟨⟨Hx, Hs, Ha, Hb⟩, Hu, Hv, Hc⟩
    isplitl [Hx]; · iexact Hx
    isplitl [Hs]; · iexact Hs
    isplitl [Ha Hb Hc]
    · isplitl [Ha]; · iexact Ha
      isplitl [Hb]; · iexact Hb
      iexact Hc
    isplitl [Hu]; · iexact Hu
    iexact Hv
  · iintro ⟨Hx, Hs, ⟨Ha, Hb, Hc⟩, Hu, Hv⟩
    isplitl [Hx Hs Ha Hb]
    · isplitl [Hx]; · iexact Hx
      isplitl [Hs]; · iexact Hs
      isplitl [Ha]; · iexact Ha
      iexact Hb
    isplitl [Hu]; · iexact Hu
    isplitl [Hv]; · iexact Hv
    iexact Hc

set_option maxHeartbeats 1000000 in
set_option maxRecDepth 65536 in
/-- The three slots idle: their shares of the inputs, their semaphores and their buffers. -/
theorem idle_all : iprop((xLoc d ↦[Finset.univ]{tileShare L} fx) ∗ (sLoc d ↦[Finset.univ]{tileShare L} fs)
      ∗ (bigSep Finset.univ fun j => slotSems (F := F) d L j) ∗ (bigSep Finset.univ fun j => slotBufs (F := F) d L j))
    ⊣⊢ iprop(Idle d L fx fs sB0 oB0 cc0_scratch6.sem cc0_scratch9.sem cc0_scratch12.sem (slotShare L 0) ∗ Idle d L fx fs sB1 oB1 cc0_scratch7.sem cc0_scratch10.sem cc0_scratch13.sem (slotShare L 1) ∗ Idle d L fx fs sB2 oB2 cc0_scratch8.sem cc0_scratch11.sem cc0_scratch14.sem (slotShare L 2)) := by
  rw [Transfers.pointsTo_deal (ℓ := xLoc d) (Finset.univ : Finset (Fin 3)) Finset.univ_nonempty (tileShare L),
    Transfers.pointsTo_deal (ℓ := sLoc d) (Finset.univ : Finset (Fin 3)) Finset.univ_nonempty (tileShare L),
    bigSep_three, bigSep_three, bigSep_three, bigSep_three]
  constructor
  · iintro ⟨⟨Hx0, Hx1, Hx2⟩, ⟨Hs0, Hs1, Hs2⟩, ⟨Ha0, Ha1, Ha2⟩, Hb0, Hb1, Hb2⟩
    isplitl [Hx0 Hs0 Ha0 Hb0]
    · iapply (idle0 d L fx fs).2
      isplitl [Hx0]; · iexact Hx0
      isplitl [Hs0]; · iexact Hs0
      isplitl [Ha0]; · iexact Ha0
      iexact Hb0
    isplitl [Hx1 Hs1 Ha1 Hb1]
    · iapply (idle1 d L fx fs).2
      isplitl [Hx1]; · iexact Hx1
      isplitl [Hs1]; · iexact Hs1
      isplitl [Ha1]; · iexact Ha1
      iexact Hb1
    iapply (idle2 d L fx fs).2
    isplitl [Hx2]; · iexact Hx2
    isplitl [Hs2]; · iexact Hs2
    isplitl [Ha2]; · iexact Ha2
    iexact Hb2
  · iintro ⟨H0, H1, H2⟩
    ihave H0' := (idle0 d L fx fs).1 $$ H0
    ihave H1' := (idle1 d L fx fs).1 $$ H1
    ihave H2' := (idle2 d L fx fs).1 $$ H2
    icases H0' with ⟨Hx0, Hs0, Ha0, Hb0⟩
    icases H1' with ⟨Hx1, Hs1, Ha1, Hb1⟩
    icases H2' with ⟨Hx2, Hs2, Ha2, Hb2⟩
    isplitl [Hx0 Hx1 Hx2]
    · isplitl [Hx0]; · iexact Hx0
      isplitl [Hx1]; · iexact Hx1
      iexact Hx2
    isplitl [Hs0 Hs1 Hs2]
    · isplitl [Hs0]; · iexact Hs0
      isplitl [Hs1]; · iexact Hs1
      iexact Hs2
    isplitl [Ha0 Ha1 Ha2]
    · isplitl [Ha0]; · iexact Ha0
      isplitl [Ha1]; · iexact Ha1
      iexact Ha2
    isplitl [Hb0]; · iexact Hb0
    isplitl [Hb1]; · iexact Hb1
    iexact Hb2

set_option maxHeartbeats 1000000 in
set_option maxRecDepth 65536 in
/-- A task, from its share of the inputs and its chunks of the result, terminates with those chunks computed and the
tile's buffers and semaphores as they were. -/
theorem wp_task (hF : (K (F := F)).Facts) (O : CellTallies nD τ sig (HIx 1)) (W : Waits sig (HIx 1)) (hO : ∀ g, O g none = 0) :
    iprop(levAts (K (F := F)).L (K (F := F)).lev ∗ emp ∗ TaskIn d L fx fs fo
        ∗ scopedBufs (thr d L) ∗ scopedSems0 (thr d L) ∗ owes (thr d L) O W)
      ⊢ wp frame (wpE (defs₀ (F := F)) 𝒱₀ (thr d L) none) Set.univ (cc0__sc_body (F := F) L xV (Memref.isWhole_whole _) sV (Memref.isWhole_whole _) oV (Memref.isWhole_whole _) sB0 (Memref.isWhole_whole _) sB1 (Memref.isWhole_whole _) sB2 (Memref.isWhole_whole _) oB0 (Memref.isWhole_whole _) oB1 (Memref.isWhole_whole _) oB2 (Memref.isWhole_whole _) cc0_scratch6 cc0_scratch7 cc0_scratch8 cc0_scratch9 cc0_scratch10 cc0_scratch11 cc0_scratch12 cc0_scratch13 cc0_scratch14) fun _ =>
          iprop(TaskOut d L fx fs ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_slots, ownBufs_slots]
  unfold TaskIn TaskOut
  iintro ⟨#Hlv, -, ⟨Hx, Hs, Ho⟩, ⟨Hb, Hbr⟩, ⟨Hm, Hmr⟩, HO⟩
  ihave Hmw := (show levAts (K (F := F)).L (K (F := F)).lev ⊢ Transfers.MayWaits (thr d L) (default : HIx 1) O from
    (K (F := F)).mayWaits_none (thr := thr d L) hO) $$ Hlv
  ihave Hi := (idle_all d L fx fs).1 $$ [Hx Hs Hm Hb]
  · isplitl [Hx]; · iexact Hx
    isplitl [Hs]; · iexact Hs
    isplitl [Hm] <;> iassumption
  iapply (wp_wand frame _ _) $$ [Hi Ho HO Hmw]
  · iapply (wp_body (q := slotShare L) (fo := fo) (W := W) (O := O) (good d L fx fs))
    icases Hi with ⟨H0, H1, H2⟩
    isplitl [H0]; · iexact H0
    isplitl [H1]; · iexact H1
    isplitl [H2]; · iexact H2
    isplitl [Ho]; · iexact Ho
    unfold Ow
    isplitl [Hmw]; · iexact Hmw
    iexists W
    isplitr
    · ipureintro; exact fun p hp => .inl hp
    iexact HO
  iintro %u ⟨H0, H1, H2, Hw, HO⟩
  ihave Hi := (idle_all d L fx fs).2 $$ [H0 H1 H2]
  · isplitl [H0]; · iexact H0
    isplitl [H1] <;> iassumption
  icases Hi with ⟨Hx, Hs, Hm, Hb⟩
  unfold Ow
  icases HO with ⟨-, HO⟩
  isplitl [Hx Hs Hw]
  · isplitl [Hx]; · iexact Hx
    isplitl [Hs] <;> iassumption
  isplitl [Hb Hbr]
  · isplitl [Hb] <;> iassumption
  isplitl [Hm Hmr]
  · isplitl [Hm] <;> iassumption
  iexact HO

end Task

end Cert.Proof.Topk

end
-- ==== Proof.Run.lean ====
module

public import proofs.«01_k».proof.Proof.Task
public import Idealize.ShloMosaic.Lib.SparseCore.Quiescent

@[expose] public section

noncomputable section

namespace Cert.Proof.Topk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S8192x4096 EltTy.f32)
local notation "sV" => (Memref.whole Cert.KernelIdeal.main_arg1_scv : Memref Cert.KernelIdeal.sig Kind.scVector Space.hbm Cert.KernelIdeal.S8192x4096 EltTy.f32)
local notation "oV" => (Memref.whole Cert.KernelIdeal.main_v0_scv : Memref Cert.KernelIdeal.sig Kind.scVector Space.hbm Cert.KernelIdeal.S8192x4096 EltTy.f32)
local notation "sB0" => (Memref.whole Cert.KernelIdeal.cc0_scratch0 : Memref Cert.KernelIdeal.sig Kind.scVector Space.vmem Cert.KernelIdeal.S8x2048 EltTy.f32)
local notation "sB1" => (Memref.whole Cert.KernelIdeal.cc0_scratch1 : Memref Cert.KernelIdeal.sig Kind.scVector Space.vmem Cert.KernelIdeal.S8x2048 EltTy.f32)
local notation "sB2" => (Memref.whole Cert.KernelIdeal.cc0_scratch2 : Memref Cert.KernelIdeal.sig Kind.scVector Space.vmem Cert.KernelIdeal.S8x2048 EltTy.f32)
local notation "oB0" => (Memref.whole Cert.KernelIdeal.cc0_scratch3 : Memref Cert.KernelIdeal.sig Kind.scVector Space.vmem Cert.KernelIdeal.S8x2048 EltTy.f32)
local notation "oB1" => (Memref.whole Cert.KernelIdeal.cc0_scratch4 : Memref Cert.KernelIdeal.sig Kind.scVector Space.vmem Cert.KernelIdeal.S8x2048 EltTy.f32)
local notation "oB2" => (Memref.whole Cert.KernelIdeal.cc0_scratch5 : Memref Cert.KernelIdeal.sig Kind.scVector Space.vmem Cert.KernelIdeal.S8x2048 EltTy.f32)

/-! ## The tasks' shares make up the arrays -/

/-- The task of SparseCore `c` and tile `i`. -/
def tileAt (c : Fin 2) (i : Fin 16) : grid0.Coords :=
  fun | 0 => c | 1 => i | ⟨_ + 2, h⟩ => absurd h (Nat.not_lt.2 (Nat.le_add_left _ _))

/-- All the chunks: SparseCore, tile, chunk of the tile. -/
def chunks : Finset (Fin 2 × Fin 16 × ℕ) := Finset.univ ×ˢ (Finset.univ ×ˢ Finset.range 64)

/-- The positions of such a chunk. -/
def chunkSet (p : Fin 2 × Fin 16 × ℕ) : Finset S8192x4096.Idx := oSet (tileAt p.1 p.2.1) p.2.2

theorem mem_chunkSet {p : Fin 2 × Fin 16 × ℕ} {z : S8192x4096.Idx} :
    z ∈ chunkSet p ↔ (z 0).val / 8 = 64 * p.2.1.val + 32 * p.1.val + p.2.2 / 2 ∧ (z 1).val / 2048 = p.2.2 % 2 := mem_oSet

theorem mem_chunks {p : Fin 2 × Fin 16 × ℕ} : p ∈ chunks ↔ p.2.2 < 64 := by
  unfold chunks
  rw [Finset.mem_product, Finset.mem_product, Finset.mem_range]
  exact ⟨fun h => h.2.2, fun h => ⟨Finset.mem_univ _, Finset.mem_univ _, h⟩⟩

theorem chunks_disjoint : ∀ p ∈ chunks, ∀ p' ∈ chunks, p ≠ p' → Disjoint (chunkSet p) (chunkSet p') := by
  rintro ⟨c, i, k⟩ hp ⟨c', i', k'⟩ hp' hne
  refine Finset.disjoint_left.2 fun z hz hz' => hne ?_
  have h := mem_chunkSet.1 hz
  have h' := mem_chunkSet.1 hz'
  have hk : k < 64 := mem_chunks.1 hp
  have hk' : k' < 64 := mem_chunks.1 hp'
  have hc := c.isLt
  have hc' := c'.isLt
  obtain ⟨h0, h1⟩ := h
  obtain ⟨h0', h1'⟩ := h'
  dsimp only at h0 h1 h0' h1'
  have e1 : i = i' := Fin.ext (by omega)
  have e2 : c = c' := Fin.ext (by omega)
  have e3 : k = k' := by omega
  rw [e1, e2, e3]

set_option maxRecDepth 16384 in
theorem chunks_cover : chunks.biUnion chunkSet = Finset.univ := by
  refine Finset.eq_univ_iff_forall.2 fun z => ?_
  have h0 : (z 0).val < 8192 := (z 0).isLt
  have h1 : (z 1).val < 4096 := (z 1).isLt
  rw [Finset.mem_biUnion]
  refine ⟨⟨⟨(z 0).val / 256 % 2, by omega⟩, ⟨(z 0).val / 512, by omega⟩, 2 * ((z 0).val / 8 % 32) + (z 1).val / 2048⟩, ?_, ?_⟩
  · rw [mem_chunks]
    show 2 * ((z 0).val / 8 % 32) + (z 1).val / 2048 < 64
    omega
  · rw [mem_chunkSet]
    show (z 0).val / 8 = 64 * ((z 0).val / 512) + 32 * ((z 0).val / 256 % 2) + (2 * ((z 0).val / 8 % 32) + (z 1).val / 2048) / 2
      ∧ (z 1).val / 2048 = (2 * ((z 0).val / 8 % 32) + (z 1).val / 2048) % 2
    omega

section Split

variable (d : Dev nD) (fx : Buf (Elt F) (xLoc d)) (fs : Buf (Elt F) (sLoc d)) (f : Buf (Elt F) (oLoc d))

/-- An array at a share is that share dealt to the tasks. -/
theorem deal_tiles {ℓ : Loc nD τ sig} (g : Buf (Elt F) ℓ) : (ℓ ↦{fullShare} g : sProp 𝕄)
    = bigSep Finset.univ fun c : Fin 2 => bigSep Finset.univ fun i : Fin 16 => ℓ ↦[Finset.univ]{tileShare (tileAt c i)} g := by
  rw [Transfers.pointsTo_deal (ℓ := ℓ) (Finset.univ : Finset (Fin 2)) Finset.univ_nonempty fullShare]
  exact bigSep_congr fun c _ => Transfers.pointsTo_deal (ℓ := ℓ) (Finset.univ : Finset (Fin 16)) Finset.univ_nonempty _

/-- The result is the chunks of all the tasks. -/
theorem chunks_tiles : (oLoc d ↦{fullShare} f : sProp 𝕄)
    = bigSep Finset.univ fun c : Fin 2 => bigSep Finset.univ fun i : Fin 16 => Written d (tileAt c i) f 64 := by
  have h := pointsTo_biUnion (Ix := HIx 1) (Val := Elt F) (Name := ℕ) (U := UU) (Lvl := ℕ) (ℓ := oLoc d) (q := fullShare) (f := f) chunks chunkSet chunks_disjoint
  rw [chunks_cover] at h
  refine h.trans ?_
  unfold chunks
  rw [Idealize.ShloMosaic.SparseCore.bigSep_product]
  exact bigSep_congr fun c _ => Idealize.ShloMosaic.SparseCore.bigSep_product _ _ _

/-- The three arrays are what the tasks hold. -/
theorem tasks_eq : (iprop((xLoc d ↦{fullShare} fx) ∗ (sLoc d ↦{fullShare} fs) ∗ (oLoc d ↦{fullShare} f)) : sProp 𝕄)
    = bigSep Finset.univ fun c : Fin 2 => bigSep Finset.univ fun i : Fin 16 =>
        iprop((xLoc d ↦[Finset.univ]{tileShare (tileAt c i)} fx) ∗ (sLoc d ↦[Finset.univ]{tileShare (tileAt c i)} fs) ∗ Written d (tileAt c i) f 64) := by
  rw [deal_tiles fx, deal_tiles fs, chunks_tiles, ← bigSep_sep', ← bigSep_sep']
  refine bigSep_congr fun c _ => ?_
  rw [← bigSep_sep', ← bigSep_sep']

theorem tasks_in (fo : Buf (Elt F) (oLoc d)) : (iprop((xLoc d ↦{fullShare} fx) ∗ (sLoc d ↦{fullShare} fs) ∗ (oLoc d ↦{fullShare} fo)) : sProp 𝕄)
    = bigSep Finset.univ fun c : Fin 2 => bigSep Finset.univ fun i : Fin 16 => TaskIn d (tileAt c i) fx fs fo := by
  rw [tasks_eq]
  unfold TaskIn Todo Written
  rw [Finset.range_eq_Ico]

theorem tasks_out : (iprop((xLoc d ↦{fullShare} fx) ∗ (sLoc d ↦{fullShare} fs) ∗ (oLoc d ↦{fullShare} (sparse fx fs : Buf (Elt F) (oLoc d)))) : sProp 𝕄)
    = bigSep Finset.univ fun c : Fin 2 => bigSep Finset.univ fun i : Fin 16 => TaskOut d (tileAt c i) fx fs :=
  tasks_eq d fx fs (sparse fx fs)

end Split

/-! ## What the handshakes carry -/

instance taskIn_storable (d : Dev nD) (L : grid0.Coords) (fx : Buf (Elt F) (xLoc d)) (fs : Buf (Elt F) (sLoc d)) (fo : Buf (Elt F) (oLoc d)) :
    BI.Storable (upEmb : UEmb _ 𝕄) (TaskIn d L fx fs fo) := by
  unfold TaskIn Todo
  infer_instance

instance taskOut_storable (d : Dev nD) (L : grid0.Coords) (fx : Buf (Elt F) (xLoc d)) (fs : Buf (Elt F) (sLoc d)) :
    BI.Storable (upEmb : UEmb _ 𝕄) (TaskOut d L fx fs) := by
  unfold TaskOut Written
  infer_instance

variable (m : (ℓ : Loc nD τ sig) → Buf (Elt F) ℓ) (ρ : Dev nD → PrngReg)

/-- What the launch memory gives a task. -/
abbrev taskIn (d : Dev nD) (c : Fin 2) (i : Fin 16) : sProp 𝕄 := TaskIn d (tileAt c i) (m (xLoc d)) (m (sLoc d)) (m (oLoc d))
/-- What a task brings back. -/
abbrev taskOut (d : Dev nD) (c : Fin 2) (i : Fin 16) : sProp 𝕄 := TaskOut d (tileAt c i) (m (xLoc d)) (m (sLoc d))

/-- Each SparseCore is handed what its sixteen tasks need, and hands back what they leave. -/
def P : (K (F := F)).Pay (nD := nD) (Val := Elt F) (Name := ℕ) (U := UU) where
  st := fun q d c => match q with | 0 => bigSep Finset.univ fun i : Fin ((K (F := F)).nSub 0) => taskIn m d (Fin.cast nCore_zero c) (Fin.cast nSub_zero i)
  dn := fun q d c => match q with | 0 => bigSep Finset.univ fun i : Fin ((K (F := F)).nSub 0) => taskOut m d (Fin.cast nCore_zero c) (Fin.cast nSub_zero i)
  go := fun q d c i => match q with | 0 => taskIn m d (Fin.cast nCore_zero c) (Fin.cast nSub_zero i)
  td := fun q d c i => match q with | 0 => taskOut m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => taskIn m d (Fin.cast nCore_zero c) (Fin.cast nSub_zero i)))
  dn q d c := match q with
    | 0 => (inferInstance : BI.Storable (upEmb : UEmb _ 𝕄) (bigSep Finset.univ fun i : Fin ((K (F := F)).nSub 0) => taskOut m d (Fin.cast nCore_zero c) (Fin.cast nSub_zero i)))
  go q d c i := match q with
    | 0 => (inferInstance : BI.Storable (upEmb : UEmb _ 𝕄) (taskIn m d (Fin.cast nCore_zero c) (Fin.cast nSub_zero i)))
  td q d c i := match q with
    | 0 => (inferInstance : BI.Storable (upEmb : UEmb _ 𝕄) (taskOut m d (Fin.cast nCore_zero c) (Fin.cast nSub_zero i)))

/-! ## The obligation of the tasks -/

theorem defs₀_tile (c : Fin τ.nSC) (s : Fin τ.nSub) :
    defs₀ (F := F) (.scVector c s) 0 ()
      = SparseCore.onTile hcore0 hsub0 (fun c s => cc0__sc_body (F := F) (tileAt c s) xV (Memref.isWhole_whole _) sV (Memref.isWhole_whole _) oV (Memref.isWhole_whole _) sB0 (Memref.isWhole_whole _) sB1 (Memref.isWhole_whole _) sB2 (Memref.isWhole_whole _) oB0 (Memref.isWhole_whole _) oB1 (Memref.isWhole_whole _) oB2 (Memref.isWhole_whole _) cc0_scratch6 cc0_scratch7 cc0_scratch8 cc0_scratch9 cc0_scratch10 cc0_scratch11 cc0_scratch12 cc0_scratch13 cc0_scratch14) ⟨⟩ c s := rfl

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 65536 in
/-- The tasks do what the handshakes carry. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]
  simp only [SparseCore.onTile, hci, and_self, ↓reduceDIte]
  exact (wp_task d (tileAt (Fin.cast nCore_zero c) (Fin.cast nSub_zero i)) (m (xLoc d)) (m (sLoc d)) (m (oLoc d)) hF O W hO).trans
    (wp_mono frame _ _ fun _ => weaken_waits)

/-- What is held can be kept while what comes back is passed on. -/
theorem keep (A B : sProp 𝕄) : A ⊢ |={Set.univ}=> iprop(A ∗ (B -∗ B)) := by
  iintro H
  imodintro
  isplitl [H]; · iexact H
  iintro H
  iexact H

/-- What a SparseCore is handed is what its tasks are, and so back. -/
theorem vecSplit : (K (F := F)).VecSplit' (P m) 0 := by
  intro d c
  have hs : (P m).st 0 d c = bigSep Finset.univ fun i : Fin ((K (F := F)).nSub 0) => taskIn m d (Fin.cast nCore_zero c) (Fin.cast nSub_zero i) := by
    unfold P
    rfl
  have hd : (P m).dn 0 d c = bigSep Finset.univ fun i : Fin ((K (F := F)).nSub 0) => taskOut m d (Fin.cast nCore_zero c) (Fin.cast nSub_zero i) := by
    unfold P
    rfl
  have hg : ∀ i, (P m).go 0 d c i = taskIn m d (Fin.cast nCore_zero c) (Fin.cast nSub_zero i) := by
    intro i
    unfold P
    rfl
  have ht : ∀ i, (P m).td 0 d c i = taskOut m d (Fin.cast nCore_zero c) (Fin.cast nSub_zero i) := by
    intro i
    unfold P
    rfl
  rw [hs, hd, bigSep_congr fun i _ => hg i, bigSep_congr fun i _ => ht i]
  exact keep _ _

/-! ## The launch -/

/-- The ghost state at the launch. -/
def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [bigSep_nothing]
    iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

theorem unscopedBufs_eq (d : Dev nD) (W : (b : Ref sig .tc) → Buf (Elt F) ((d.tc : Thread nD τ).loc b)) :
    (unscopedBufs d W : sProp 𝕄) = iprop((xLoc d ↦{fullShare} W main_arg0) ∗ (sLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The result computed from the launch memory. -/
abbrev answer (d : Dev nD) : Buf (Elt F) (oLoc d) := sparse (m (xLoc d)) (m (sLoc d))

/-- What the program ends with: the inputs as they were, the result computed. -/
abbrev FIN (d : Dev nD) : sProp 𝕄 :=
  iprop((xLoc d ↦{fullShare} m (xLoc d)) ∗ (sLoc d ↦{fullShare} m (sLoc d)) ∗ (oLoc d ↦{fullShare} answer m d))

theorem st0_eq (d : Dev nD) : (bigSep Finset.univ fun c : Fin ((K (F := F)).nCore 0) => (P m).st 0 d c)
    = iprop((xLoc d ↦{fullShare} m (xLoc d)) ∗ (sLoc d ↦{fullShare} m (sLoc d)) ∗ (oLoc d ↦{fullShare} m (oLoc d))) :=
  (tasks_in d (m (xLoc d)) (m (sLoc d)) (m (oLoc d))).symm

theorem dn0_eq (d : Dev nD) : (bigSep Finset.univ fun c : Fin ((K (F := F)).nCore 0) => (P m).dn 0 d c) = FIN m d :=
  (tasks_out d (m (xLoc d)) (m (sLoc d))).symm

/-- The program on a device's TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st0_eq]
    iexact Harr
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What the final memory of a device holds. -/
def fq (d : Dev nD) (s' : Phys nD τ sig (Elt F)) : Prop :=
  s'.mem.mem (xLoc d) = m (xLoc d) ∧ s'.mem.mem (sLoc d) = m (sLoc d) ∧ s'.mem.mem (oLoc d) = answer m d

/-- An array held outright is what the memory has. -/
theorem whole_agree {s' : Phys nD τ sig (Elt F)} {ℓ : Loc nD τ sig} {f : Buf (Elt F) ℓ} :
    iprop(SI s' ∗ (ℓ ↦{fullShare} f)) ⊢ (iprop(SI s' ∗ ⌜s'.mem.mem ℓ = f⌝) : sProp 𝕄) := by
  iintro H
  ihave H := (persistent_entails_right (SI_pointsTo_agree (st := s') (ℓ := ℓ) (I := Finset.univ) (q := fullShare) (f := f))) $$ H
  icases H with ⟨%h, HSI, -⟩
  isplitl [HSI]; · iexact HSI
  ipureintro
  exact funext fun i => h i (Finset.mem_univ i)

set_option maxRecDepth 16384 in
theorem hfin (d : Dev nD) (s' : Phys nD τ sig (Elt F)) : iprop(FIN m d ∗ SI s') ⊢ (⌜fq m d s'⌝ : sProp 𝕄) := by
  iintro ⟨⟨Hx, Hs, Ho⟩, HSI⟩
  ihave H := (whole_agree (F := F) (s' := s') (ℓ := xLoc d)) $$ [HSI Hx]
  · isplitl [HSI] <;> iassumption
  icases H with ⟨HSI, %h1⟩
  ihave H := (whole_agree (F := F) (s' := s') (ℓ := sLoc d)) $$ [HSI Hs]
  · isplitl [HSI] <;> iassumption
  icases H with ⟨HSI, %h2⟩
  ihave H := (whole_agree (F := F) (s' := s') (ℓ := oLoc d)) $$ [HSI Ho]
  · isplitl [HSI] <;> iassumption
  icases H with ⟨-, %h3⟩
  ipureintro
  exact ⟨h1, h2, h3⟩

/-- What holds at the end of every run: on each device the inputs as they were and the result computed, and every
semaphore at zero. -/
def QC : PUnit × MemSt nD τ sig (Elt F) → Prop := fun r =>
  (∀ d : Dev nD, r.2.mem (xLoc d) = m (xLoc d) ∧ r.2.mem (sLoc d) = m (sLoc d) ∧ r.2.mem (oLoc d) = answer m d) ∧ r.2.sem = fun _ => 0

/-- The kernel terminates without fault from every memory, the inputs unchanged, the result computed. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Topk

end
-- ==== Proof.Rank.lean ====
module

public import proofs.«01_k».proof.Proof.Panel
public import Idealize.ShloMosaic.Lib.SortPrefix
public import Mathlib.Data.Nat.Bitwise

@[expose] public section

noncomputable section

namespace Cert.Proof.Topk

open Idealize.ShloMosaic

/-! ## The sort of a group of scores -/

/-- Score `a` is less than score `b`: what the reference's sort asks. -/
def less (s : Fin 8 → EReal) (a b : Fin 8) : Bool := decide (s a < s b)

/-- Member `a` sorts before member `b`: its score is less, or equal and `a` comes first. -/
def before (s : Fin 8 → EReal) (a b : Fin 8) : Bool := decide (s a < s b) || (decide (s a = s b) && decide (a < b))

theorem before_total (s : Fin 8 → EReal) : StrictTotalBefore (before s) :=
  StrictTotalBefore.of_key_then_position (fun a b : EReal => decide (a < b)) s (fun a => decide_eq_false (lt_irrefl a))
    (fun a b c h h' => decide_eq_true ((of_decide_eq_true h).trans (of_decide_eq_true h')))
    (fun a b => by
      rcases lt_trichotomy a b with h | h | h
      · exact Or.inl (decide_eq_true h)
      · exact Or.inr (Or.inl h)
      · exact Or.inr (Or.inr (decide_eq_true h)))

theorem before_of_gt (s : Fin 8 → EReal) {a b : Fin 8} (h : a < b) : before s b a = less s b a := by
  unfold before less
  rw [decide_eq_false (not_lt.2 h.le), Bool.and_false, Bool.or_false]

/-- A stable sort breaks ties by position. -/
theorem stableSort_ties (s : Fin 8 → EReal) : ∀ l : List (Fin 8), l.Pairwise (· < ·) → stableSort (less s) l = stableSort (before s) l
  | [], _ => rfl
  | a :: l, h => by
    unfold stableSort
    rw [stableSort_ties s l (List.pairwise_cons.1 h).2]
    refine insertBefore_congr _ _ a _ fun b hb => ?_
    have hb' : b ∈ l := (perm_stableSort (before s) l).mem_iff.1 hb
    exact (before_of_gt s ((List.pairwise_cons.1 h).1 b hb')).symm

theorem sortPositions_ties (s : Fin 8 → EReal) : sortPositions 8 (less s) = sortPositions 8 (before s) :=
  stableSort_ties s _ (List.pairwise_lt_finRange 8)

/-- The member that the sort puts at place `t`. -/
def nth (s : Fin 8 → EReal) (t : Fin 8) : Fin 8 := sortedFrom (before s) t

theorem sortedFrom_ties (s : Fin 8 → EReal) (t : Fin 8) : sortedFrom (less s) t = nth s t := by
  unfold nth sortedFrom
  simp only [List.get_eq_getElem, sortPositions_ties]
  rfl

/-- How many members of the group sort before member `k`. -/
def rank (s : Fin 8 → EReal) (k : Fin 8) : ℕ := (Finset.univ.filter fun j => before s j k = true).card

theorem before_nth (s : Fin 8 → EReal) (a t : Fin 8) : before s (nth s a) (nth s t) = true ↔ a < t := by
  have hB := before_total s
  have hno : ∀ i j : Fin 8, i < j → before s (nth s j) (nth s i) = false := fun i j hij =>
    sortedFrom_noInversion (before s) (before s) (fun a b h => hB.asymm a b h) (fun _ _ h => h) hB.negTrans i j hij
  constructor
  · intro h
    by_contra hn
    rcases (not_lt.1 hn).lt_or_eq with hlt | heq
    · rw [hno t a hlt] at h
      exact Bool.false_ne_true h
    · rw [heq, hB.irrefl] at h
      exact Bool.false_ne_true h
  · intro h
    rcases hB.total (nth s a) (nth s t) (fun e => h.ne (sortedFrom_injective _ e)) with h' | h'
    · exact h'
    · rw [hno a t h] at h'
      exact absurd h' Bool.false_ne_true

/-- The member at place `t` has `t` members before it. -/
theorem rank_nth (s : Fin 8 → EReal) (t : Fin 8) : rank s (nth s t) = t.val := by
  unfold rank
  have hi : (Finset.univ.filter fun j => before s j (nth s t) = true) = (Finset.Iio t).image (nth s) := by
    ext j
    obtain ⟨a, rfl⟩ := sortedFrom_surjective (before s) j
    rw [Finset.mem_filter, Finset.mem_image]
    constructor
    · exact fun h => ⟨a, Finset.mem_Iio.2 ((before_nth s a t).1 h.2), rfl⟩
    · rintro ⟨b, hb, e⟩
      have e' : b = a := sortedFrom_injective _ e
      subst e'
      exact ⟨Finset.mem_univ _, (before_nth s b t).2 (Finset.mem_Iio.1 hb)⟩
  rw [hi, Finset.card_image_of_injective _ (show Function.Injective (nth s) from sortedFrom_injective _), Fin.card_Iio]

/-- A member is among the first four of the sort exactly when its rank is below four. -/
theorem first_four (s : Fin 8 → EReal) (k : Fin 8) : (∃ t : Fin 8, t.val < 4 ∧ nth s t = k) ↔ rank s k < 4 := by
  constructor
  · rintro ⟨t, ht, rfl⟩
    rwa [rank_nth]
  · intro h
    obtain ⟨t, rfl⟩ := sortedFrom_surjective (before s) k
    refine ⟨t, ?_, rfl⟩
    have := rank_nth s t
    unfold nth at this
    omega

/-! ## The kernel's packed ranks -/

/-- One comparison of the kernel as a number. -/
def gt01 (s : Fin 8 → EReal) (i j : Fin 8) : ℕ := if s j < s i then 1 else 0

theorem gt01_le (s : Fin 8 → EReal) (i j : Fin 8) : gt01 s i j ≤ 1 := by
  unfold gt01
  split <;> omega

/-- One member's part in another's rank. -/
def part (s : Fin 8 → EReal) (j k : Fin 8) : ℕ := if before s j k = true then 1 else 0

theorem part_self (s : Fin 8 → EReal) (k : Fin 8) : part s k k = 0 := by
  unfold part
  rw [(before_total s).irrefl, if_neg Bool.false_ne_true]

theorem part_gt (s : Fin 8 → EReal) {k j : Fin 8} (h : k < j) : part s j k = gt01 s k j := by
  unfold part gt01
  rw [before_of_gt s h]
  unfold less
  simp only [decide_eq_true_eq]

theorem part_lt (s : Fin 8 → EReal) {i k : Fin 8} (h : i < k) : part s i k + gt01 s i k = 1 := by
  unfold part gt01 before
  rw [decide_eq_true h, Bool.and_true]
  by_cases hlt : s k < s i
  · rw [if_pos hlt, decide_eq_false (not_lt.2 hlt.le), decide_eq_false hlt.ne', Bool.or_false, if_neg Bool.false_ne_true]
  · rw [if_neg hlt]
    rcases (not_lt.1 hlt).lt_or_eq with h' | h'
    · rw [decide_eq_true h', Bool.true_or, if_pos rfl]
    · rw [decide_eq_true h', Bool.or_true, if_pos rfl]

theorem rank_parts (s : Fin 8 → EReal) (k : Fin 8) : rank s k
    = part s 0 k + part s 1 k + part s 2 k + part s 3 k + part s 4 k + part s 5 k + part s 6 k + part s 7 k := by
  unfold rank part
  rw [Finset.card_filter, Fin.sum_univ_eight]

theorem rank_0 (s : Fin 8 → EReal) : rank s 0 = 0 + gt01 s 0 1 + gt01 s 0 2 + gt01 s 0 3 + gt01 s 0 4 + gt01 s 0 5 + gt01 s 0 6 + gt01 s 0 7 := by
  rw [rank_parts, part_self, part_gt s (show (0 : Fin 8) < 1 by decide), part_gt s (show (0 : Fin 8) < 2 by decide), part_gt s (show (0 : Fin 8) < 3 by decide), part_gt s (show (0 : Fin 8) < 4 by decide), part_gt s (show (0 : Fin 8) < 5 by decide), part_gt s (show (0 : Fin 8) < 6 by decide), part_gt s (show (0 : Fin 8) < 7 by decide)]

theorem rank_1 (s : Fin 8 → EReal) : rank s 1 + gt01 s 0 1 = 1 + gt01 s 1 2 + gt01 s 1 3 + gt01 s 1 4 + gt01 s 1 5 + gt01 s 1 6 + gt01 s 1 7 := by
  rw [rank_parts, part_self, part_gt s (show (1 : Fin 8) < 2 by decide), part_gt s (show (1 : Fin 8) < 3 by decide), part_gt s (show (1 : Fin 8) < 4 by decide), part_gt s (show (1 : Fin 8) < 5 by decide), part_gt s (show (1 : Fin 8) < 6 by decide), part_gt s (show (1 : Fin 8) < 7 by decide)]
  have h0 := part_lt s (show (0 : Fin 8) < 1 by decide)
  omega

theorem rank_2 (s : Fin 8 → EReal) : rank s 2 + gt01 s 0 2 + gt01 s 1 2 = 2 + gt01 s 2 3 + gt01 s 2 4 + gt01 s 2 5 + gt01 s 2 6 + gt01 s 2 7 := by
  rw [rank_parts, part_self, part_gt s (show (2 : Fin 8) < 3 by decide), part_gt s (show (2 : Fin 8) < 4 by decide), part_gt s (show (2 : Fin 8) < 5 by decide), part_gt s (show (2 : Fin 8) < 6 by decide), part_gt s (show (2 : Fin 8) < 7 by decide)]
  have h0 := part_lt s (show (0 : Fin 8) < 2 by decide)
  have h1 := part_lt s (show (1 : Fin 8) < 2 by decide)
  omega

theorem rank_3 (s : Fin 8 → EReal) : rank s 3 + gt01 s 0 3 + gt01 s 1 3 + gt01 s 2 3 = 3 + gt01 s 3 4 + gt01 s 3 5 + gt01 s 3 6 + gt01 s 3 7 := by
  rw [rank_parts, part_self, part_gt s (show (3 : Fin 8) < 4 by decide), part_gt s (show (3 : Fin 8) < 5 by decide), part_gt s (show (3 : Fin 8) < 6 by decide), part_gt s (show (3 : Fin 8) < 7 by decide)]
  have h0 := part_lt s (show (0 : Fin 8) < 3 by decide)
  have h1 := part_lt s (show (1 : Fin 8) < 3 by decide)
  have h2 := part_lt s (show (2 : Fin 8) < 3 by decide)
  omega

theorem rank_4 (s : Fin 8 → EReal) : rank s 4 + gt01 s 0 4 + gt01 s 1 4 + gt01 s 2 4 + gt01 s 3 4 = 4 + gt01 s 4 5 + gt01 s 4 6 + gt01 s 4 7 := by
  rw [rank_parts, part_self, part_gt s (show (4 : Fin 8) < 5 by decide), part_gt s (show (4 : Fin 8) < 6 by decide), part_gt s (show (4 : Fin 8) < 7 by decide)]
  have h0 := part_lt s (show (0 : Fin 8) < 4 by decide)
  have h1 := part_lt s (show (1 : Fin 8) < 4 by decide)
  have h2 := part_lt s (show (2 : Fin 8) < 4 by decide)
  have h3 := part_lt s (show (3 : Fin 8) < 4 by decide)
  omega

theorem rank_5 (s : Fin 8 → EReal) : rank s 5 + gt01 s 0 5 + gt01 s 1 5 + gt01 s 2 5 + gt01 s 3 5 + gt01 s 4 5 = 5 + gt01 s 5 6 + gt01 s 5 7 := by
  rw [rank_parts, part_self, part_gt s (show (5 : Fin 8) < 6 by decide), part_gt s (show (5 : Fin 8) < 7 by decide)]
  have h0 := part_lt s (show (0 : Fin 8) < 5 by decide)
  have h1 := part_lt s (show (1 : Fin 8) < 5 by decide)
  have h2 := part_lt s (show (2 : Fin 8) < 5 by decide)
  have h3 := part_lt s (show (3 : Fin 8) < 5 by decide)
  have h4 := part_lt s (show (4 : Fin 8) < 5 by decide)
  omega

theorem rank_6 (s : Fin 8 → EReal) : rank s 6 + gt01 s 0 6 + gt01 s 1 6 + gt01 s 2 6 + gt01 s 3 6 + gt01 s 4 6 + gt01 s 5 6 = 6 + gt01 s 6 7 := by
  rw [rank_parts, part_self, part_gt s (show (6 : Fin 8) < 7 by decide)]
  have h0 := part_lt s (show (0 : Fin 8) < 6 by decide)
  have h1 := part_lt s (show (1 : Fin 8) < 6 by decide)
  have h2 := part_lt s (show (2 : Fin 8) < 6 by decide)
  have h3 := part_lt s (show (3 : Fin 8) < 6 by decide)
  have h4 := part_lt s (show (4 : Fin 8) < 6 by decide)
  have h5 := part_lt s (show (5 : Fin 8) < 6 by decide)
  omega

theorem rank_7 (s : Fin 8 → EReal) : rank s 7 + gt01 s 0 7 + gt01 s 1 7 + gt01 s 2 7 + gt01 s 3 7 + gt01 s 4 7 + gt01 s 5 7 + gt01 s 6 7 = 7 := by
  rw [rank_parts, part_self]
  have h0 := part_lt s (show (0 : Fin 8) < 7 by decide)
  have h1 := part_lt s (show (1 : Fin 8) < 7 by decide)
  have h2 := part_lt s (show (2 : Fin 8) < 7 by decide)
  have h3 := part_lt s (show (3 : Fin 8) < 7 by decide)
  have h4 := part_lt s (show (4 : Fin 8) < 7 by decide)
  have h5 := part_lt s (show (5 : Fin 8) < 7 by decide)
  have h6 := part_lt s (show (6 : Fin 8) < 7 by decide)
  omega

theorem rank_le (s : Fin 8 → EReal) (k : Fin 8) : rank s k ≤ 7 := by
  obtain ⟨t, rfl⟩ := sortedFrom_surjective (before s) k
  have h := rank_nth s t
  unfold nth at h
  omega

theorem cmpTerm_eq (s : Fin 8 → Ideal .f32) (i j : Fin 8) (w : ℕ) :
    cmpTerm (F := Ideal) (s i) (s j) (BitVec.ofNat 32 w) = BitVec.ofNat 32 (gt01 s i j * w) := by
  unfold cmpTerm gt01
  have h : FloatOps.cmpf .olt (s j) (s i) = 1 ↔ s j < s i := by
    show BitVec.ofBool (decide (s j < s i)) = 1 ↔ _
    by_cases h : s j < s i
    · simp [h]
    · simp [h]
  by_cases hlt : s j < s i
  · rw [if_pos (h.2 hlt), if_pos hlt, Nat.one_mul]
  · rw [if_neg fun e => hlt (h.1 e), if_neg hlt, Nat.zero_mul]

/-- Each rank has its own four bits of the packed word. -/
theorem packed_toNat (s : Fin 8 → Ideal .f32) : (packed (F := Ideal) s).toNat
    = rank s 0 + rank s 1 * 16 + rank s 2 * 256 + rank s 3 * 4096 + rank s 4 * 65536 + rank s 5 * 1048576 + rank s 6 * 16777216 + rank s 7 * 268435456 := by
  unfold packed
  simp only [cmpTerm_eq, ← BitVec.ofNat_add]
  rw [BitVec.toNat_ofNat]
  have r0 := rank_0 s
  have l0 := rank_le s 0
  have r1 := rank_1 s
  have l1 := rank_le s 1
  have r2 := rank_2 s
  have l2 := rank_le s 2
  have r3 := rank_3 s
  have l3 := rank_le s 3
  have r4 := rank_4 s
  have l4 := rank_le s 4
  have r5 := rank_5 s
  have l5 := rank_le s 5
  have r6 := rank_6 s
  have l6 := rank_le s 6
  have r7 := rank_7 s
  have l7 := rank_le s 7
  generalize gt01 s 0 1 = d01 at *
  generalize gt01 s 0 2 = d02 at *
  generalize gt01 s 0 3 = d03 at *
  generalize gt01 s 0 4 = d04 at *
  generalize gt01 s 0 5 = d05 at *
  generalize gt01 s 0 6 = d06 at *
  generalize gt01 s 0 7 = d07 at *
  generalize gt01 s 1 2 = d12 at *
  generalize gt01 s 1 3 = d13 at *
  generalize gt01 s 1 4 = d14 at *
  generalize gt01 s 1 5 = d15 at *
  generalize gt01 s 1 6 = d16 at *
  generalize gt01 s 1 7 = d17 at *
  generalize gt01 s 2 3 = d23 at *
  generalize gt01 s 2 4 = d24 at *
  generalize gt01 s 2 5 = d25 at *
  generalize gt01 s 2 6 = d26 at *
  generalize gt01 s 2 7 = d27 at *
  generalize gt01 s 3 4 = d34 at *
  generalize gt01 s 3 5 = d35 at *
  generalize gt01 s 3 6 = d36 at *
  generalize gt01 s 3 7 = d37 at *
  generalize gt01 s 4 5 = d45 at *
  generalize gt01 s 4 6 = d46 at *
  generalize gt01 s 4 7 = d47 at *
  generalize gt01 s 5 6 = d56 at *
  generalize gt01 s 5 7 = d57 at *
  generalize gt01 s 6 7 = d67 at *
  generalize rank s 0 = k0 at *
  generalize rank s 1 = k1 at *
  generalize rank s 2 = k2 at *
  generalize rank s 3 = k3 at *
  generalize rank s 4 = k4 at *
  generalize rank s 5 = k5 at *
  generalize rank s 6 = k6 at *
  generalize rank s 7 = k7 at *
  omega

theorem drop_iff (p : BitVec 32) (i : ℕ) (hi : i < 32) : BitVec.ofBool ((p &&& BitVec.ofNat 32 (2 ^ i)) == 0#32) = 1 ↔ p.toNat / 2 ^ i % 2 = 0 := by
  have h1 : (p &&& BitVec.ofNat 32 (2 ^ i)) = 0#32 ↔ p.toNat / 2 ^ i % 2 = 0 := by
    rw [← BitVec.toNat_inj, BitVec.toNat_and, BitVec.toNat_ofNat, Nat.mod_eq_of_lt (Nat.pow_lt_pow_right (by decide) hi), Nat.and_two_pow,
      Nat.testBit_eq_decide_div_mod_eq]
    have hp : 0 < 2 ^ i := Nat.two_pow_pos i
    rcases Nat.mod_two_eq_zero_or_one (p.toNat / 2 ^ i) with h | h
    · rw [h]; simp
    · rw [h]; simp
  rw [← h1]
  by_cases h : (p &&& BitVec.ofNat 32 (2 ^ i)) = 0#32
  · rw [h]; simp
  · have hb : ((p &&& BitVec.ofNat 32 (2 ^ i)) == 0#32) = false := beq_eq_false_iff_ne.2 h
    rw [hb]
    simp [h]

/-- The kernel drops a member exactly when its rank is below four. -/
theorem dropBit_iff (s : Fin 8 → Ideal .f32) (k : Fin 8) : dropBit (F := Ideal) s k = 1 ↔ rank s k < 4 := by
  have hp := packed_toNat s
  have l := rank_le s
  have h : dropBit (F := Ideal) s k = BitVec.ofBool ((packed (F := Ideal) s &&& BitVec.ofNat 32 (2 ^ (4 * k.val + 2))) == 0#32) := by
    unfold dropBit
    revert k
    intro k
    fin_cases k <;> rfl
  rw [h, drop_iff _ _ (by have := k.isLt; omega), hp]
  have l0 := l 0
  have l1 := l 1
  have l2 := l 2
  have l3 := l 3
  have l4 := l 4
  have l5 := l 5
  have l6 := l 6
  have l7 := l 7
  clear hp h l
  fin_cases k
  · show (rank s 0 + rank s 1 * 16 + rank s 2 * 256 + rank s 3 * 4096 + rank s 4 * 65536 + rank s 5 * 1048576 + rank s 6 * 16777216 + rank s 7 * 268435456) / 4 % 2 = 0 ↔ rank s 0 < 4
    omega
  · show (rank s 0 + rank s 1 * 16 + rank s 2 * 256 + rank s 3 * 4096 + rank s 4 * 65536 + rank s 5 * 1048576 + rank s 6 * 16777216 + rank s 7 * 268435456) / 64 % 2 = 0 ↔ rank s 1 < 4
    omega
  · show (rank s 0 + rank s 1 * 16 + rank s 2 * 256 + rank s 3 * 4096 + rank s 4 * 65536 + rank s 5 * 1048576 + rank s 6 * 16777216 + rank s 7 * 268435456) / 1024 % 2 = 0 ↔ rank s 2 < 4
    omega
  · show (rank s 0 + rank s 1 * 16 + rank s 2 * 256 + rank s 3 * 4096 + rank s 4 * 65536 + rank s 5 * 1048576 + rank s 6 * 16777216 + rank s 7 * 268435456) / 16384 % 2 = 0 ↔ rank s 3 < 4
    omega
  · show (rank s 0 + rank s 1 * 16 + rank s 2 * 256 + rank s 3 * 4096 + rank s 4 * 65536 + rank s 5 * 1048576 + rank s 6 * 16777216 + rank s 7 * 268435456) / 262144 % 2 = 0 ↔ rank s 4 < 4
    omega
  · show (rank s 0 + rank s 1 * 16 + rank s 2 * 256 + rank s 3 * 4096 + rank s 4 * 65536 + rank s 5 * 1048576 + rank s 6 * 16777216 + rank s 7 * 268435456) / 4194304 % 2 = 0 ↔ rank s 5 < 4
    omega
  · show (rank s 0 + rank s 1 * 16 + rank s 2 * 256 + rank s 3 * 4096 + rank s 4 * 65536 + rank s 5 * 1048576 + rank s 6 * 16777216 + rank s 7 * 268435456) / 67108864 % 2 = 0 ↔ rank s 6 < 4
    omega
  · show (rank s 0 + rank s 1 * 16 + rank s 2 * 256 + rank s 3 * 4096 + rank s 4 * 65536 + rank s 5 * 1048576 + rank s 6 * 16777216 + rank s 7 * 268435456) / 1073741824 % 2 = 0 ↔ rank s 7 < 4
    omega

end Cert.Proof.Topk

end
-- ==== Proof.Answer.lean ====
module

public import proofs.«01_k».proof.Proof.Task
public import proofs.«01_k».proof.Proof.Rank
public import proofs.«01_k».proof.Proof.Gen.ReferenceIdeal.Run
public import Idealize.ShloMosaic.Lib.ScatterToDense.RefScatter
public import Idealize.ShloMosaic.Lib.PointwiseCore
public import Idealize.ShloMosaic.Lib.Pipeline.Value
public import Idealize.ShloMosaic.Lib.IdealHost

@[expose] public section

set_option maxRecDepth 16384

noncomputable section

namespace Cert.Proof.Topk

open Cert.ReferenceIdeal Cert.ReferenceIdeal.Gen
open Idealize.ShloMosaic hiding ix2
open Idealize.ShloMosaic.Routing (shape2 shape3 wrap_of_lt)
open Idealize.ShloMosaic.ScatterToDense
open Idealize.ShloMosaic.ValueIdx (ix2)

/-! ## What the reference computes -/

/-- The scores, one group a row. -/
def table (S : S8192x4096.Idx → EReal) : S4194304x8.Idx → EReal := shapeCast S4194304x8 S shapeCasts_S8192x4096_S4194304x8

/-- Row `r` of the scores. -/
def scoreRow (S : S8192x4096.Idx → EReal) (r : Fin 4194304) : Fin 8 → EReal := fun k => table S (ix2 r k)

/-- The columns of the four least scores of each row. -/
def firstFour (S : S8192x4096.Idx → EReal) : IVec S4194304x4 32 :=
  extractStridedSlice S4194304x4 ![0, 0] ((Host.sort2 S4194304x8 1 (comparator_f32_i32_d1 (F := Ideal)) (table S) (iotaInDim S4194304x8 32 1)).2)
    slices_S4194304x8_S4194304x4_0_0

/-- The number of each row. -/
def rows : IVec S4194304x1 32 := broadcastInDim S4194304x1 ![0] bcast_S4194304_S4194304x1_0 (iotaInDim S4194304 32 0)

/-- The places the reference clears: a row and a column each. -/
def pairs (S : S8192x4096.Idx → EReal) : IVec S4194304x4x2 32 :=
  concatenate S4194304x4x2 2
    [⟨S4194304x4x1, broadcastInDim S4194304x4x1 ![0, 1] bcast_S4194304x4_S4194304x4x1_0_1
        (broadcastInDim S4194304x4 ![0, 1] bcast_S4194304x1_S4194304x4_0_1
          (select (cmpi .slt rows (broadcastInDim S4194304x1 ![] bcast_S_S4194304x1 (constantI S_ 32 0#32)))
            (addi rows (broadcastInDim S4194304x1 ![] bcast_S_S4194304x1 (constantI S_ 32 4194304#32))) rows))⟩,
      ⟨S4194304x4x1, broadcastInDim S4194304x4x1 ![0, 1] bcast_S4194304x4_S4194304x4x1_0_1
        (select (cmpi .slt (firstFour S) (broadcastInDim S4194304x4 ![] bcast_S_S4194304x4 (constantI S_ 32 0#32)))
          (addi (firstFour S) (broadcastInDim S4194304x4 ![] bcast_S_S4194304x4 (constantI S_ 32 8#32))) (firstFour S))⟩]
    concatenates_S4194304x4x1_S4194304x4x1_S4194304x4x2_d2

/-- One everywhere but at the cleared places. -/
def mask (S : S8192x4096.Idx → EReal) : S4194304x8.Idx → EReal :=
  Host.scatter scatter_S4194304x8_S4194304x4x2_S4194304x4_n_01_01_2 (fun _ b => b)
    (broadcastInDim S4194304x8 ![] bcast_S_S4194304x8 (constant (F := Ideal) S_ .f32 0x3F800000#32)) (pairs S)
    (broadcastInDim S4194304x4 ![] bcast_S_S4194304x4 (constant (F := Ideal) S_ .f32 0x00000000#32))

/-- The reference's result. -/
def product (X S : S8192x4096.Idx → EReal) : S8192x4096.Idx → EReal :=
  mulf (F := Ideal) (φ := .f32) X (shapeCast S8192x4096 (mask S) shapeCasts_S4194304x8_S8192x4096)

/-- The sort compares two scores as the order of the extended reals does. -/
theorem comparator_less (l r : Ideal .f32 × BitVec 32) : (comparator_f32_i32_d1 (F := Ideal) l r == 1#1) = decide ((l.1 : EReal) < r.1) := by
  have canon : ∀ a : EReal, Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0x00000000#32)) (FloatOps.ofBits (F := Ideal) .f32 0x00000000#32) a) = a := by
    intro a
    have h1 : FloatOps.cmpf (F := Ideal) (φ := .f32) .une a a = 0#1 := by
      show BitVec.ofBool (decide (a ≠ a)) = 0#1
      simp
    rw [h1]
    show Scalar.select (BitVec.ofBool (decide (a = (FloatOps.ofBits (F := Ideal) .f32 0x00000000#32 : EReal)))) _ a = a
    by_cases h : a = (FloatOps.ofBits (F := Ideal) .f32 0x00000000#32 : EReal)
    · rw [decide_eq_true h]
      exact h.symm
    · rw [decide_eq_false h]
      rfl
  have h : comparator_f32_i32_d1 (F := Ideal) l r = BitVec.ofBool (decide ((l.1 : EReal) < r.1)) := by
    unfold comparator_f32_i32_d1
    dsimp only
    rw [canon l.1, canon r.1]
    rfl
  rw [h]
  cases decide ((l.1 : EReal) < r.1) <;> rfl

theorem firstFour_at (S : S8192x4096.Idx → EReal) (r : Fin 4194304) (t : Fin 4) :
    firstFour S (ix2 r t) = BitVec.ofNat 32 (nth (scoreRow S r) ⟨t.val, by omega⟩).val := by
  unfold firstFour
  refine (extractStridedSlice_apply _ _ _ _ (ix2 r (⟨t.val, by omega⟩ : Fin 8)) ?_).trans ?_
  · intro a
    match a with
    | ⟨0, _⟩ => exact (Nat.zero_add _).symm
    | ⟨1, _⟩ => exact (Nat.zero_add _).symm
  · rw [← sortedFrom_ties]
    have hs : ∀ k : Fin 8, Shape.Idx.along (s := S4194304x8) (ix2 r (⟨t.val, by omega⟩ : Fin 8)) 1 k = ix2 r k := by
      intro k
      funext a
      match a with
      | ⟨0, _⟩ => rfl
      | ⟨1, _⟩ => rfl
    have hf : (fun k k' : Fin 8 => comparator_f32_i32_d1 (F := Ideal)
          (table S (Shape.Idx.along (s := S4194304x8) (ix2 r (⟨t.val, by omega⟩ : Fin 8)) 1 k), iotaInDim S4194304x8 32 1 (Shape.Idx.along (s := S4194304x8) (ix2 r (⟨t.val, by omega⟩ : Fin 8)) 1 k))
          (table S (Shape.Idx.along (s := S4194304x8) (ix2 r (⟨t.val, by omega⟩ : Fin 8)) 1 k'), iotaInDim S4194304x8 32 1 (Shape.Idx.along (s := S4194304x8) (ix2 r (⟨t.val, by omega⟩ : Fin 8)) 1 k')) == 1#1) = less (scoreRow S r) := by
      funext k k'
      rw [comparator_less, hs k, hs k']
      rfl
    rw [← hf]
    rfl

theorem pairs_row (S : S8192x4096.Idx → EReal) (r : Fin 4194304) (t : Fin 4) : pairs S (ValueIdx.ix3 r t (0 : Fin 2)) = BitVec.ofNat 32 r.val := by
  unfold pairs rows
  pointwise
  exact wrap_of_lt _ _ (by
    rw [BitVec.toNat_ofNat]
    exact Nat.lt_of_le_of_lt (Nat.mod_le _ _) (by have := r.isLt; show r.val < 2 ^ 31; omega))

theorem pairs_col (S : S8192x4096.Idx → EReal) (r : Fin 4194304) (t : Fin 4) :
    pairs S (ValueIdx.ix3 r t (1 : Fin 2)) = BitVec.ofNat 32 (nth (scoreRow S r) ⟨t.val, by omega⟩).val := by
  unfold pairs
  pointwise
  rw [ix2_eq_valueIdx, firstFour_at]
  exact wrap_of_lt _ _ (by
    rw [BitVec.toNat_ofNat]
    exact Nat.lt_of_le_of_lt (Nat.mod_le _ _) (by have := (nth (scoreRow S r) ⟨t.val, by omega⟩).isLt; show (nth (scoreRow S r) ⟨t.val, by omega⟩).val < 2 ^ 31; omega))

/-- A place of the mask is zero exactly when its rank in its row is below four. -/
theorem mask_at (S : S8192x4096.Idx → EReal) (r : Fin 4194304) (j : Fin 8) : mask S (ix2 r j) = if rank (scoreRow S r) j < 4 then 0 else 1 := by
  unfold mask
  refine (scatter_eq_dense (T := 4194304) (C := 8) (K := 4) (by decide) _ rfl rfl rfl (by decide) (by decide) _ (pairs S) _
    (fun z => pairs S (ValueIdx.ix3 (z 0) (z 1) (1 : Fin 2))) (fun _ => (0 : EReal)) (1 : EReal) (fun _ => ?_) (pairs_row S) (fun i k c _ => Iff.rfl)
    (fun _ _ => ?_) (ix2 r j)).trans ?_
  · exact Ideal.ofBits_one_f32
  · exact Ideal.ofBits_zero_f32
  · have hn : ∀ t : Fin 4, j.val = (pairs S (ValueIdx.ix3 r t (1 : Fin 2))).toNat ↔ nth (scoreRow S r) ⟨t.val, by omega⟩ = j := by
      intro t
      rw [pairs_col, BitVec.toNat_ofNat, Nat.mod_eq_of_lt (by have := (nth (scoreRow S r) ⟨t.val, by omega⟩).isLt; omega)]
      exact ⟨fun h => Fin.ext h.symm, fun h => congrArg Fin.val h.symm⟩
    rcases dense_lastWinsU (C := 8) (show 0 < 4 by decide) (fun z : (shape2 4194304 4).Idx => pairs S (ValueIdx.ix3 (z 0) (z 1) (1 : Fin 2))) (fun _ => (0 : EReal)) (1 : EReal) r j
      with ⟨t, ht, _, hv⟩ | ⟨ht, hv⟩
    · rw [if_pos ((first_four _ _).1 ⟨⟨t.val, by omega⟩, t.isLt, (hn t).1 ht⟩)]
      exact hv
    · rw [if_neg]
      · exact hv
      · intro h
        obtain ⟨t, h4, e⟩ := (first_four _ _).2 h
        exact ht ⟨t.val, h4⟩ ((hn ⟨t.val, h4⟩).2 e)

/-- The row of the mask that holds a place of the result. -/
def rowOf (z : S8192x4096.Idx) : Fin 4194304 :=
  ⟨(z 0).val * 512 + (z 1).val / 8, by
    have h0 : (z 0).val < 8192 := (z 0).isLt
    have h1 : (z 1).val < 4096 := (z 1).isLt
    omega⟩

theorem flat_place (a b : ℕ) : (a * 512 + b / 8) * 8 + b % 8 = a * 4096 + b := by omega

theorem flat_group (a b k : ℕ) : a * 4096 + (8 * (b / 8) + k) = (a * 512 + b / 8) * 8 + k := by omega

theorem cast_at (M : S4194304x8.Idx → EReal) (z : S8192x4096.Idx) :
    shapeCast S8192x4096 M shapeCasts_S4194304x8_S8192x4096 z = M (ix2 (rowOf z) (slot z)) :=
  shapeCast_apply _ _ _ _ (by
    rw [Shape.rowMajor_val_two, Shape.rowMajor_val_two]
    exact flat_place (z 0).val (z 1).val)

theorem row_group (S : S8192x4096.Idx → EReal) (z : S8192x4096.Idx) : scoreRow S (rowOf z) = group (F := Ideal) S z := by
  funext k
  exact shapeCast_apply _ _ _ _ (by
    rw [Shape.rowMajor_val_two, Shape.rowMajor_val_two]
    exact flat_group (z 0).val (z 1).val k.val)

/-- Multiplying by the mask clears what the kernel clears. -/
theorem times_mask (x : EReal) (s : Fin 8 → EReal) (k : Fin 8) :
    x * (if rank s k < 4 then 0 else 1) = if dropBit (F := Ideal) s k = 1 then (zeroF (F := Ideal) : EReal) else x := by
  by_cases h : rank s k < 4
  · rw [if_pos h, if_pos ((dropBit_iff s k).2 h), mul_zero]
    exact Ideal.ofBits_zero_f32.symm
  · rw [if_neg h, if_neg fun e => h ((dropBit_iff s k).1 e), mul_one]

theorem mulf_at (X Y : S8192x4096.Idx → EReal) (z : S8192x4096.Idx) : mulf (F := Ideal) (φ := .f32) X Y z = X z * Y z := rfl

theorem sparse_at (X S : S8192x4096.Idx → EReal) (z : S8192x4096.Idx) : sparse (F := Ideal) X S z
    = if dropBit (F := Ideal) (group (F := Ideal) S z) (slot z) = 1 then (zeroF (F := Ideal) : EReal) else X z := rfl

/-- The reference's result is the kernel's. -/
theorem product_eq (X S : S8192x4096.Idx → EReal) : product X S = sparse (F := Ideal) X S := by
  funext z
  have h : shapeCast S8192x4096 (mask S) shapeCasts_S4194304x8_S8192x4096 z = if rank (group (F := Ideal) S z) (slot z) < 4 then 0 else 1 := by
    rw [cast_at, mask_at, row_group]
  unfold product
  rw [mulf_at, sparse_at, h, times_mask]

end Cert.Proof.Topk

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Run
public import proofs.«01_k».proof.Proof.Answer
public import Idealize.ShloMosaic.Adequacy
public import Idealize.ShloMosaic.Init

@[expose] public section

noncomputable section

namespace Cert.Proof

open Idealize.ShloMosaic Idealize.SL.Sem

theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Topk.run_main (F := Ideal) m ρ)

theorem frame_kernel : Cert.quiescent_Kernel (hKernel := Cert.Kernel.Gen.facts) := fun m ρ _ =>
  (θ_run Cert.KernelIdeal.defs _ _).mono (fun _ h => ⟨fun c => ⟨(h.1 c).1, (h.1 c).2.1⟩, h.2⟩) (Topk.run_main (F := Bits) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs end with `Topk.sparse` of their arguments. -/
theorem values : Cert.algebraic_KernelIdeal_ReferenceIdeal (hKernelIdeal := Cert.KernelIdeal.Gen.facts) (hReferenceIdeal := Cert.ReferenceIdeal.Gen.facts) := by
  intro m ρ m' ρ' _ hagree
  refine ⟨fun c => Topk.answer m c, ?_, ?_⟩
  · exact (θ_run Cert.KernelIdeal.defs _ _).mono (fun _ h c => ⟨(h.1 c).2.2, (h.1 c).1, (h.1 c).2.1⟩) (Topk.run_main (F := Ideal) m ρ)
  · refine (θ_run Cert.ReferenceIdeal.defs _ _).mono (fun r h c => ⟨(h c).1.trans ?_, (h c).2⟩) (Cert.ReferenceIdeal.Value.run (F := Ideal) m' ρ')
    rw [(hagree c).1, (hagree c).2]
    exact Topk.product_eq _ _

theorem claim : Cert.Claim :=
  ⟨Cert.Kernel.Gen.facts, Cert.KernelIdeal.Gen.facts, Cert.ReferenceIdeal.Gen.facts, frame_kernel, frame_kernelIdeal, frame_reference, trivial, values⟩

end Cert.Proof

end
